-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![1024, 256]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S1024x256 : Shape := ⟨2, ![1024, 256]⟩
abbrev S5 : Shape := ⟨1, ![5]⟩
abbrev S4 : Shape := ⟨1, ![4]⟩
abbrev S_ : Shape := ⟨0, ![]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S256x256, .bf16⟩
  | .hbm, ⟨1, _⟩ => ⟨S1024x256, .bf16⟩
  | .local _ .vmem, ⟨0, _⟩ => ⟨S256x256, .bf16⟩
  | .local _ .vmem, ⟨1, _⟩ => ⟨S1024x256, .bf16⟩
  | _, _ => ⟨S256x256, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v10 : BitVec 32 := Scalar.addi v5 c_m2_i32
  let c0_i32 : BitVec 32 := 0#32
  let v11 : BitVec 1 := Scalar.cmpi .sge v10 c0_i32
  let c4_i32_2 : BitVec 32 := 4#32
  let v12 : BitVec 1 := Scalar.cmpi .slt v10 c4_i32_2
  let v13 : BitVec 1 := Scalar.andi v11 v12
  let v14 : BitVec 32 := Scalar.extui v13
  let c0_i32_3 : BitVec 32 := 0#32
  let v15 : BitVec 1 := Scalar.cmpi .ne v14 c0_i32_3
  v15

def k0_dev1 (d0 : Dev nD) : Nat :=
  let c0_i32_104 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_103 : BitVec 32 := 16#32
  let v143 : BitVec 32 := Scalar.muli v2 c16_i32_103
  let v144 : BitVec 32 := Scalar.addi c0_i32_104 v143
  let c3_i32_101 : BitVec 32 := 3#32
  let c0_i32_100 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32 : BitVec 32 := 4294967294#32
  let v10 : BitVec 32 := Scalar.addi v5 c_m2_i32
  let v141 : BitVec 32 := Scalar.maxsi c0_i32_100 v10
  let v142 : BitVec 32 := Scalar.minsi c3_i32_101 v141
  let c4_i32_105 : BitVec 32 := 4#32
  let v145 : BitVec 32 := Scalar.muli v142 c4_i32_105
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v147 : BitVec 32 := Scalar.muli v8 c1_i32_106
  let v148 : BitVec 32 := Scalar.addi v146 v147
  v148.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v16 : BitVec 32 := Scalar.addi v5 c_m1_i32
  let c0_i32_4 : BitVec 32 := 0#32
  let v17 : BitVec 1 := Scalar.cmpi .sge v16 c0_i32_4
  let c4_i32_5 : BitVec 32 := 4#32
  let v18 : BitVec 1 := Scalar.cmpi .slt v16 c4_i32_5
  let v19 : BitVec 1 := Scalar.andi v17 v18
  let v20 : BitVec 32 := Scalar.extui v19
  let c0_i32_6 : BitVec 32 := 0#32
  let v21 : BitVec 1 := Scalar.cmpi .ne v20 c0_i32_6
  v21

def k0_dev2 (d0 : Dev nD) : Nat :=
  let c0_i32_104 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_103 : BitVec 32 := 16#32
  let v143 : BitVec 32 := Scalar.muli v2 c16_i32_103
  let v144 : BitVec 32 := Scalar.addi c0_i32_104 v143
  let c3_i32_101 : BitVec 32 := 3#32
  let c0_i32_100 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v16 : BitVec 32 := Scalar.addi v5 c_m1_i32
  let v141 : BitVec 32 := Scalar.maxsi c0_i32_100 v16
  let v142 : BitVec 32 := Scalar.minsi c3_i32_101 v141
  let c4_i32_105 : BitVec 32 := 4#32
  let v145 : BitVec 32 := Scalar.muli v142 c4_i32_105
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v147 : BitVec 32 := Scalar.muli v8 c1_i32_106
  let v148 : BitVec 32 := Scalar.addi v146 v147
  v148.toNat
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v22 : BitVec 32 := Scalar.addi v5 c1_i32_7
  let c0_i32_8 : BitVec 32 := 0#32
  let v23 : BitVec 1 := Scalar.cmpi .sge v22 c0_i32_8
  let c4_i32_9 : BitVec 32 := 4#32
  let v24 : BitVec 1 := Scalar.cmpi .slt v22 c4_i32_9
  let v25 : BitVec 1 := Scalar.andi v23 v24
  let v26 : BitVec 32 := Scalar.extui v25
  let c0_i32_10 : BitVec 32 := 0#32
  let v27 : BitVec 1 := Scalar.cmpi .ne v26 c0_i32_10
  v27

def k0_dev3 (d0 : Dev nD) : Nat :=
  let c0_i32_104 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_103 : BitVec 32 := 16#32
  let v143 : BitVec 32 := Scalar.muli v2 c16_i32_103
  let v144 : BitVec 32 := Scalar.addi c0_i32_104 v143
  let c3_i32_101 : BitVec 32 := 3#32
  let c0_i32_100 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v22 : BitVec 32 := Scalar.addi v5 c1_i32_7
  let v141 : BitVec 32 := Scalar.maxsi c0_i32_100 v22
  let v142 : BitVec 32 := Scalar.minsi c3_i32_101 v141
  let c4_i32_105 : BitVec 32 := 4#32
  let v145 : BitVec 32 := Scalar.muli v142 c4_i32_105
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v147 : BitVec 32 := Scalar.muli v8 c1_i32_106
  let v148 : BitVec 32 := Scalar.addi v146 v147
  v148.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_11 : BitVec 32 := 2#32
  let v28 : BitVec 32 := Scalar.addi v5 c2_i32_11
  let c0_i32_12 : BitVec 32 := 0#32
  let v29 : BitVec 1 := Scalar.cmpi .sge v28 c0_i32_12
  let c4_i32_13 : BitVec 32 := 4#32
  let v30 : BitVec 1 := Scalar.cmpi .slt v28 c4_i32_13
  let v31 : BitVec 1 := Scalar.andi v29 v30
  let v32 : BitVec 32 := Scalar.extui v31
  let c0_i32_14 : BitVec 32 := 0#32
  let v33 : BitVec 1 := Scalar.cmpi .ne v32 c0_i32_14
  v33

def k0_dev4 (d0 : Dev nD) : Nat :=
  let c0_i32_104 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_103 : BitVec 32 := 16#32
  let v143 : BitVec 32 := Scalar.muli v2 c16_i32_103
  let v144 : BitVec 32 := Scalar.addi c0_i32_104 v143
  let c3_i32_101 : BitVec 32 := 3#32
  let c0_i32_100 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_11 : BitVec 32 := 2#32
  let v28 : BitVec 32 := Scalar.addi v5 c2_i32_11
  let v141 : BitVec 32 := Scalar.maxsi c0_i32_100 v28
  let v142 : BitVec 32 := Scalar.minsi c3_i32_101 v141
  let c4_i32_105 : BitVec 32 := 4#32
  let v145 : BitVec 32 := Scalar.muli v142 c4_i32_105
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v147 : BitVec 32 := Scalar.muli v8 c1_i32_106
  let v148 : BitVec 32 := Scalar.addi v146 v147
  v148.toNat
def k0_off1 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32 : BitVec 32 := 256#32
  let v47 : BitVec 32 := Scalar.muli v5 c256_i32
  let v48 : Index := Scalar.indexCast v47
  let c0_24 : Index := 0#32
  ![v48.toNat, 0]
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_25 : BitVec 32 := 4294967294#32
  let v50 : BitVec 32 := Scalar.addi v5 c_m2_i32_25
  let c0_i32_30 : BitVec 32 := 0#32
  let v55 : BitVec 1 := Scalar.cmpi .sge v50 c0_i32_30
  let c4_i32_31 : BitVec 32 := 4#32
  let v56 : BitVec 1 := Scalar.cmpi .slt v50 c4_i32_31
  let v57 : BitVec 1 := Scalar.andi v55 v56
  let v58 : BitVec 32 := Scalar.extui v57
  let c0_i32_33 : BitVec 32 := 0#32
  let v59 : BitVec 1 := Scalar.cmpi .ne v58 c0_i32_33
  v59

def k0_off2 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off3 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32_27 : BitVec 32 := 256#32
  let v52 : BitVec 32 := Scalar.muli v5 c256_i32_27
  let c0_i32_104 : BitVec 32 := 0#32
  ![v52.toNat, 0]
def k0_dev5 (d0 : Dev nD) : Nat :=
  let c0_i32_101 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_100 : BitVec 32 := 16#32
  let v141 : BitVec 32 := Scalar.muli v2 c16_i32_100
  let v142 : BitVec 32 := Scalar.addi c0_i32_101 v141
  let c3_i32_29 : BitVec 32 := 3#32
  let c0_i32_28 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_25 : BitVec 32 := 4294967294#32
  let v50 : BitVec 32 := Scalar.addi v5 c_m2_i32_25
  let v53 : BitVec 32 := Scalar.maxsi c0_i32_28 v50
  let v54 : BitVec 32 := Scalar.minsi c3_i32_29 v53
  let c4_i32_102 : BitVec 32 := 4#32
  let v143 : BitVec 32 := Scalar.muli v54 c4_i32_102
  let v144 : BitVec 32 := Scalar.addi v142 v143
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v145 : BitVec 32 := Scalar.muli v8 c1_i32_103
  let v146 : BitVec 32 := Scalar.addi v144 v145
  v146.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_34 : BitVec 32 := 4294967295#32
  let v60 : BitVec 32 := Scalar.addi v5 c_m1_i32_34
  let c0_i32_39 : BitVec 32 := 0#32
  let v65 : BitVec 1 := Scalar.cmpi .sge v60 c0_i32_39
  let c4_i32_40 : BitVec 32 := 4#32
  let v66 : BitVec 1 := Scalar.cmpi .slt v60 c4_i32_40
  let v67 : BitVec 1 := Scalar.andi v65 v66
  let v68 : BitVec 32 := Scalar.extui v67
  let c0_i32_42 : BitVec 32 := 0#32
  let v69 : BitVec 1 := Scalar.cmpi .ne v68 c0_i32_42
  v69

def k0_off4 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off5 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32_36 : BitVec 32 := 256#32
  let v62 : BitVec 32 := Scalar.muli v5 c256_i32_36
  let c0_i32_104 : BitVec 32 := 0#32
  ![v62.toNat, 0]
def k0_dev6 (d0 : Dev nD) : Nat :=
  let c0_i32_101 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_100 : BitVec 32 := 16#32
  let v141 : BitVec 32 := Scalar.muli v2 c16_i32_100
  let v142 : BitVec 32 := Scalar.addi c0_i32_101 v141
  let c3_i32_38 : BitVec 32 := 3#32
  let c0_i32_37 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_34 : BitVec 32 := 4294967295#32
  let v60 : BitVec 32 := Scalar.addi v5 c_m1_i32_34
  let v63 : BitVec 32 := Scalar.maxsi c0_i32_37 v60
  let v64 : BitVec 32 := Scalar.minsi c3_i32_38 v63
  let c4_i32_102 : BitVec 32 := 4#32
  let v143 : BitVec 32 := Scalar.muli v64 c4_i32_102
  let v144 : BitVec 32 := Scalar.addi v142 v143
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v145 : BitVec 32 := Scalar.muli v8 c1_i32_103
  let v146 : BitVec 32 := Scalar.addi v144 v145
  v146.toNat
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_43 : BitVec 32 := 1#32
  let v70 : BitVec 32 := Scalar.addi v5 c1_i32_43
  let c0_i32_48 : BitVec 32 := 0#32
  let v75 : BitVec 1 := Scalar.cmpi .sge v70 c0_i32_48
  let c4_i32_49 : BitVec 32 := 4#32
  let v76 : BitVec 1 := Scalar.cmpi .slt v70 c4_i32_49
  let v77 : BitVec 1 := Scalar.andi v75 v76
  let v78 : BitVec 32 := Scalar.extui v77
  let c0_i32_51 : BitVec 32 := 0#32
  let v79 : BitVec 1 := Scalar.cmpi .ne v78 c0_i32_51
  v79

def k0_off6 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off7 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32_45 : BitVec 32 := 256#32
  let v72 : BitVec 32 := Scalar.muli v5 c256_i32_45
  let c0_i32_104 : BitVec 32 := 0#32
  ![v72.toNat, 0]
def k0_dev7 (d0 : Dev nD) : Nat :=
  let c0_i32_101 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_100 : BitVec 32 := 16#32
  let v141 : BitVec 32 := Scalar.muli v2 c16_i32_100
  let v142 : BitVec 32 := Scalar.addi c0_i32_101 v141
  let c3_i32_47 : BitVec 32 := 3#32
  let c0_i32_46 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_43 : BitVec 32 := 1#32
  let v70 : BitVec 32 := Scalar.addi v5 c1_i32_43
  let v73 : BitVec 32 := Scalar.maxsi c0_i32_46 v70
  let v74 : BitVec 32 := Scalar.minsi c3_i32_47 v73
  let c4_i32_102 : BitVec 32 := 4#32
  let v143 : BitVec 32 := Scalar.muli v74 c4_i32_102
  let v144 : BitVec 32 := Scalar.addi v142 v143
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v145 : BitVec 32 := Scalar.muli v8 c1_i32_103
  let v146 : BitVec 32 := Scalar.addi v144 v145
  v146.toNat
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_52 : BitVec 32 := 2#32
  let v80 : BitVec 32 := Scalar.addi v5 c2_i32_52
  let c0_i32_57 : BitVec 32 := 0#32
  let v85 : BitVec 1 := Scalar.cmpi .sge v80 c0_i32_57
  let c4_i32_58 : BitVec 32 := 4#32
  let v86 : BitVec 1 := Scalar.cmpi .slt v80 c4_i32_58
  let v87 : BitVec 1 := Scalar.andi v85 v86
  let v88 : BitVec 32 := Scalar.extui v87
  let c0_i32_60 : BitVec 32 := 0#32
  let v89 : BitVec 1 := Scalar.cmpi .ne v88 c0_i32_60
  v89

def k0_off8 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off9 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32_54 : BitVec 32 := 256#32
  let v82 : BitVec 32 := Scalar.muli v5 c256_i32_54
  let c0_i32_104 : BitVec 32 := 0#32
  ![v82.toNat, 0]
def k0_dev8 (d0 : Dev nD) : Nat :=
  let c0_i32_101 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_100 : BitVec 32 := 16#32
  let v141 : BitVec 32 := Scalar.muli v2 c16_i32_100
  let v142 : BitVec 32 := Scalar.addi c0_i32_101 v141
  let c3_i32_56 : BitVec 32 := 3#32
  let c0_i32_55 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_52 : BitVec 32 := 2#32
  let v80 : BitVec 32 := Scalar.addi v5 c2_i32_52
  let v83 : BitVec 32 := Scalar.maxsi c0_i32_55 v80
  let v84 : BitVec 32 := Scalar.minsi c3_i32_56 v83
  let c4_i32_102 : BitVec 32 := 4#32
  let v143 : BitVec 32 := Scalar.muli v84 c4_i32_102
  let v144 : BitVec 32 := Scalar.addi v142 v143
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_103 : BitVec 32 := 1#32
  let v145 : BitVec 32 := Scalar.muli v8 c1_i32_103
  let v146 : BitVec 32 := Scalar.addi v144 v145
  v146.toNat
def k0_cond11 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_71 : BitVec 32 := 1#32
  let v98 : BitVec 1 := Scalar.cmpi .eq v5 c1_i32_71
  let c2_i32_72 : BitVec 32 := 2#32
  let v99 : BitVec 1 := Scalar.cmpi .eq v5 c2_i32_72
  let v100 : BitVec 1 := Scalar.ori v98 v99
  let v101 : BitVec 32 := Scalar.extui v100
  let c0_i32_74 : BitVec 32 := 0#32
  let v102 : BitVec 1 := Scalar.cmpi .ne v101 c0_i32_74
  v102

def k0_off10 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_61 : BitVec 32 := 1#32
  let v90 : BitVec 1 := Scalar.cmpi .eq v5 c1_i32_61
  let c3_i32_62 : BitVec 32 := 3#32
  let c0_i32_63 : BitVec 32 := 0#32
  let v91 : BitVec 32 := Scalar.select v90 c3_i32_62 c0_i32_63
  ![v91.toNat]
def k0_off11 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_61 : BitVec 32 := 1#32
  let v90 : BitVec 1 := Scalar.cmpi .eq v5 c1_i32_61
  let c3_i32_62 : BitVec 32 := 3#32
  let c0_i32_63 : BitVec 32 := 0#32
  let v91 : BitVec 32 := Scalar.select v90 c3_i32_62 c0_i32_63
  let c256_i32_101 : BitVec 32 := 256#32
  let v142 : BitVec 32 := Scalar.muli v91 c256_i32_101
  let c0_i32_109 : BitVec 32 := 0#32
  ![v142.toNat, 0]
def k0_dev9 (d0 : Dev nD) : Nat :=
  let c0_i32_112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_111 : BitVec 32 := 16#32
  let v155 : BitVec 32 := Scalar.muli v2 c16_i32_111
  let v156 : BitVec 32 := Scalar.addi c0_i32_112 v155
  let c3_i32_70 : BitVec 32 := 3#32
  let c0_i32_69 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_64 : BitVec 32 := 1#32
  let v92 : BitVec 1 := Scalar.cmpi .eq v5 c1_i32_64
  let c0_i32_65 : BitVec 32 := 0#32
  let c3_i32_66 : BitVec 32 := 3#32
  let v93 : BitVec 32 := Scalar.select v92 c0_i32_65 c3_i32_66
  let v96 : BitVec 32 := Scalar.maxsi c0_i32_69 v93
  let v97 : BitVec 32 := Scalar.minsi c3_i32_70 v96
  let c4_i32_113 : BitVec 32 := 4#32
  let v157 : BitVec 32 := Scalar.muli v97 c4_i32_113
  let v158 : BitVec 32 := Scalar.addi v156 v157
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_114 : BitVec 32 := 1#32
  let v159 : BitVec 32 := Scalar.muli v8 c1_i32_114
  let v160 : BitVec 32 := Scalar.addi v158 v159
  v160.toNat
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m2_i32_25 : BitVec 32 := 4294967294#32
  let v50 : BitVec 32 := Scalar.addi v5 c_m2_i32_25
  let c0_i32_30 : BitVec 32 := 0#32
  let v55 : BitVec 1 := Scalar.cmpi .sge v50 c0_i32_30
  let c4_i32_31 : BitVec 32 := 4#32
  let v56 : BitVec 1 := Scalar.cmpi .slt v50 c4_i32_31
  let v57 : BitVec 1 := Scalar.andi v55 v56
  let v131 : BitVec 32 := Scalar.extui v57
  let c0_i32_91 : BitVec 32 := 0#32
  let v132 : BitVec 1 := Scalar.cmpi .ne v131 c0_i32_91
  v132

def k0_off12 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32_26 : BitVec 32 := 256#32
  let v51 : BitVec 32 := Scalar.muli v5 c256_i32_26
  let c0_i32_101 : BitVec 32 := 0#32
  ![v51.toNat, 0]
def k0_cond17 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32_34 : BitVec 32 := 4294967295#32
  let v60 : BitVec 32 := Scalar.addi v5 c_m1_i32_34
  let c0_i32_39 : BitVec 32 := 0#32
  let v65 : BitVec 1 := Scalar.cmpi .sge v60 c0_i32_39
  let c4_i32_40 : BitVec 32 := 4#32
  let v66 : BitVec 1 := Scalar.cmpi .slt v60 c4_i32_40
  let v67 : BitVec 1 := Scalar.andi v65 v66
  let v133 : BitVec 32 := Scalar.extui v67
  let c0_i32_93 : BitVec 32 := 0#32
  let v134 : BitVec 1 := Scalar.cmpi .ne v133 c0_i32_93
  v134

def k0_off13 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32_35 : BitVec 32 := 256#32
  let v61 : BitVec 32 := Scalar.muli v5 c256_i32_35
  let c0_i32_101 : BitVec 32 := 0#32
  ![v61.toNat, 0]
def k0_cond18 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_43 : BitVec 32 := 1#32
  let v70 : BitVec 32 := Scalar.addi v5 c1_i32_43
  let c0_i32_48 : BitVec 32 := 0#32
  let v75 : BitVec 1 := Scalar.cmpi .sge v70 c0_i32_48
  let c4_i32_49 : BitVec 32 := 4#32
  let v76 : BitVec 1 := Scalar.cmpi .slt v70 c4_i32_49
  let v77 : BitVec 1 := Scalar.andi v75 v76
  let v135 : BitVec 32 := Scalar.extui v77
  let c0_i32_95 : BitVec 32 := 0#32
  let v136 : BitVec 1 := Scalar.cmpi .ne v135 c0_i32_95
  v136

def k0_off14 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32_44 : BitVec 32 := 256#32
  let v71 : BitVec 32 := Scalar.muli v5 c256_i32_44
  let c0_i32_101 : BitVec 32 := 0#32
  ![v71.toNat, 0]
def k0_cond19 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_52 : BitVec 32 := 2#32
  let v80 : BitVec 32 := Scalar.addi v5 c2_i32_52
  let c0_i32_57 : BitVec 32 := 0#32
  let v85 : BitVec 1 := Scalar.cmpi .sge v80 c0_i32_57
  let c4_i32_58 : BitVec 32 := 4#32
  let v86 : BitVec 1 := Scalar.cmpi .slt v80 c4_i32_58
  let v87 : BitVec 1 := Scalar.andi v85 v86
  let v137 : BitVec 32 := Scalar.extui v87
  let c0_i32_97 : BitVec 32 := 0#32
  let v138 : BitVec 1 := Scalar.cmpi .ne v137 c0_i32_97
  v138

def k0_off15 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32_53 : BitVec 32 := 256#32
  let v81 : BitVec 32 := Scalar.muli v5 c256_i32_53
  let c0_i32_101 : BitVec 32 := 0#32
  ![v81.toNat, 0]
def k0_cond20 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_71 : BitVec 32 := 1#32
  let v98 : BitVec 1 := Scalar.cmpi .eq v5 c1_i32_71
  let c2_i32_72 : BitVec 32 := 2#32
  let v99 : BitVec 1 := Scalar.cmpi .eq v5 c2_i32_72
  let v100 : BitVec 1 := Scalar.ori v98 v99
  let v139 : BitVec 32 := Scalar.extui v100
  let c0_i32_99 : BitVec 32 := 0#32
  let v140 : BitVec 1 := Scalar.cmpi .ne v139 c0_i32_99
  v140

def k0_off16 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_61 : BitVec 32 := 1#32
  let v90 : BitVec 1 := Scalar.cmpi .eq v5 c1_i32_61
  let c3_i32_62 : BitVec 32 := 3#32
  let c0_i32_63 : BitVec 32 := 0#32
  let v91 : BitVec 32 := Scalar.select v90 c3_i32_62 c0_i32_63
  let c256_i32_67 : BitVec 32 := 256#32
  let v94 : BitVec 32 := Scalar.muli v91 c256_i32_67
  let c0_i32_101 : BitVec 32 := 0#32
  ![v94.toNat, 0]
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x256 : Shape := ⟨2, ![1024, 256]⟩

abbrev nBuf : Space → Nat
  | .hbm => 1
  | .vmem => 0
  | .smem => 0
  | _ => 0

abbrev bufTy : (tb : Table) → Fin (tcTables nBuf tb) → BufTy
  | .hbm, ⟨0, _⟩ => ⟨S1024x256, .bf16⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Line.lean ====
/-
  Line: who sends what to whom. The 32 devices of the mesh fall into eight lines of four along the axis y; the kernel
  only ever talks along a line. This module holds the tables of that talk, as functions of a device's place `y` on its line
  and of a slot number, and the closed forms of the program's own address words over them.

  Slots 0, 1, 2, 3 are the neighbours at distance -2, -1, +1, +2 on the line; slot 4 is the forwarding hop of the two
  inner devices.
-/
module

public import proofs.«01_k».proof.Proof.Gen.KernelIdeal
public import proofs.«01_k».proof.Proof.Gen.KernelIdeal.Skeleton

@[expose] public section

noncomputable section

namespace Cert.Gather

open Cert.KernelIdeal Cert.KernelIdeal.Gen
open Idealize.ShloMosaic

set_option backward.proofsInPublic true

/-- The place of device `c` on its line. -/
def yOf (c : Dev nD) : Fin 4 := ⟨c.val / 4 % 4, by omega⟩

/-- The device at place `y` of the line of `c`. -/
def onLine (c : Dev nD) (y : Fin 4) : Dev nD :=
  ⟨16 * (c.val / 16) + 4 * y.val + c.val % 4, by
    have h : c.val < 32 := c.isLt
    have hy := y.isLt
    show _ < 32
    omega⟩

theorem yOf_onLine (c : Dev nD) (y : Fin 4) : yOf (onLine c y) = y := by
  apply Fin.ext; simp only [yOf, onLine]; omega
theorem onLine_onLine (c : Dev nD) (y z : Fin 4) : onLine (onLine c y) z = onLine c z := by
  apply Fin.ext; simp only [onLine]; omega
theorem onLine_self (c : Dev nD) : onLine c (yOf c) = c := by
  apply Fin.ext; simp only [yOf, onLine]; omega
theorem onLine_of_yOf {c : Dev nD} {y : Fin 4} (h : yOf c = y) : onLine c y = c := by rw [← h, onLine_self]

/-- Whether a device at place `y` uses slot `i`. -/
def uses : Fin 4 → Fin 5 → Bool
  | y, 0 => 2 ≤ y.val
  | y, 1 => 1 ≤ y.val
  | y, 2 => y.val ≤ 2
  | y, 3 => y.val ≤ 1
  | y, 4 => y = 1 || y = 2

/-- The place slot `i` of a device at place `y` leads to (where it is used). -/
def tgt : Fin 4 → Fin 5 → Fin 4
  | y, 0 => ⟨y.val - 2, by omega⟩
  | y, 1 => ⟨y.val - 1, by omega⟩
  | y, 2 => ⟨min 3 (y.val + 1), by omega⟩
  | y, 3 => ⟨min 3 (y.val + 2), by omega⟩
  | y, 4 => if y = 1 then 0 else 3

/-- The chunk slot `i` of a device at place `y` carries: its own, or on the forwarding hop the one it passes on. -/
def chk (y : Fin 4) (i : Fin 5) : Fin 4 := if i = 4 then (if y = 1 then 3 else 0) else y

/-- The slot that leads back. -/
def rev (i : Fin 5) : Fin 5 := if i = 4 then 4 else ⟨3 - i.val, by omega⟩

/-- The neighbour in slot `i` of a device at place `y` also lends room for the chunk `y` will forward to it. -/
def carries (y : Fin 4) (i : Fin 5) : Bool := (y = 1 && i = 1) || (y = 2 && i = 2)

/-- A device at place `y` receives chunk `k` by the forwarding hop. -/
def viaHop (y k : Fin 4) : Bool := (y = 0 && k = 3) || (y = 3 && k = 0)

/-- A device at place `y` takes chunk `k` in one of the four waits at the end (and not before forwarding it). -/
def direct (y k : Fin 4) : Bool := decide (k ≠ y) && !(uses y 4 && k = chk y 4)

/-- The number of neighbours of a device at place `y`. -/
def partners (y : Fin 4) : ℕ := if y = 1 ∨ y = 2 then 3 else 2

/-- The device slot `i` of `c` leads to. -/
def dst (c : Dev nD) (i : Fin 5) : Dev nD := onLine c (tgt (yOf c) i)

/-! ### The program's conditions -/

theorem cond1_iff : ∀ c : Dev nD, k0_cond1 c = 1#1 ↔ uses (yOf c) 0 = true := by decide +kernel
theorem cond2_iff : ∀ c : Dev nD, k0_cond2 c = 1#1 ↔ uses (yOf c) 1 = true := by decide +kernel
theorem cond3_iff : ∀ c : Dev nD, k0_cond3 c = 1#1 ↔ uses (yOf c) 2 = true := by decide +kernel
theorem cond4_iff : ∀ c : Dev nD, k0_cond4 c = 1#1 ↔ uses (yOf c) 3 = true := by decide +kernel
theorem cond7_iff : ∀ c : Dev nD, k0_cond7 c = 1#1 ↔ uses (yOf c) 0 = true := by decide +kernel
theorem cond8_iff : ∀ c : Dev nD, k0_cond8 c = 1#1 ↔ uses (yOf c) 1 = true := by decide +kernel
theorem cond9_iff : ∀ c : Dev nD, k0_cond9 c = 1#1 ↔ uses (yOf c) 2 = true := by decide +kernel
theorem cond10_iff : ∀ c : Dev nD, k0_cond10 c = 1#1 ↔ uses (yOf c) 3 = true := by decide +kernel
theorem cond11_iff : ∀ c : Dev nD, k0_cond11 c = 1#1 ↔ uses (yOf c) 4 = true := by decide +kernel
theorem cond16_iff : ∀ c : Dev nD, k0_cond16 c = 1#1 ↔ uses (yOf c) 0 = true := by decide +kernel
theorem cond17_iff : ∀ c : Dev nD, k0_cond17 c = 1#1 ↔ uses (yOf c) 1 = true := by decide +kernel
theorem cond18_iff : ∀ c : Dev nD, k0_cond18 c = 1#1 ↔ uses (yOf c) 2 = true := by decide +kernel
theorem cond19_iff : ∀ c : Dev nD, k0_cond19 c = 1#1 ↔ uses (yOf c) 3 = true := by decide +kernel
theorem cond20_iff : ∀ c : Dev nD, k0_cond20 c = 1#1 ↔ uses (yOf c) 4 = true := by decide +kernel

/-! ### The devices the program addresses -/

theorem dev1_val : ∀ c : Dev nD, uses (yOf c) 0 = true → k0_dev1 c = (dst c 0).val := by decide +kernel
theorem dev2_val : ∀ c : Dev nD, uses (yOf c) 1 = true → k0_dev2 c = (dst c 1).val := by decide +kernel
theorem dev3_val : ∀ c : Dev nD, uses (yOf c) 2 = true → k0_dev3 c = (dst c 2).val := by decide +kernel
theorem dev4_val : ∀ c : Dev nD, uses (yOf c) 3 = true → k0_dev4 c = (dst c 3).val := by decide +kernel
theorem dev5_val : ∀ c : Dev nD, uses (yOf c) 0 = true → k0_dev5 c = (dst c 0).val := by decide +kernel
theorem dev6_val : ∀ c : Dev nD, uses (yOf c) 1 = true → k0_dev6 c = (dst c 1).val := by decide +kernel
theorem dev7_val : ∀ c : Dev nD, uses (yOf c) 2 = true → k0_dev7 c = (dst c 2).val := by decide +kernel
theorem dev8_val : ∀ c : Dev nD, uses (yOf c) 3 = true → k0_dev8 c = (dst c 3).val := by decide +kernel
theorem dev9_val : ∀ c : Dev nD, uses (yOf c) 4 = true → k0_dev9 c = (dst c 4).val := by decide +kernel

/-! ### The line's own word and the conditions computed from it -/

/-- The word the program computes for its place on the line. -/
def yWord (c : Dev nD) : BitVec 32 := Scalar.remsi (Scalar.divsi (Dev.word c) 4#32) 4#32
/-- The word of the chunk to pass on. -/
def fWord (c : Dev nD) : BitVec 32 := Scalar.select (Scalar.cmpi .eq (yWord c) 1#32) 3#32 0#32
/-- The bit telling the two inner devices. -/
def innerBit (c : Dev nD) : BitVec 1 := Scalar.ori (Scalar.cmpi .eq (yWord c) 1#32) (Scalar.cmpi .eq (yWord c) 2#32)
/-- The word of the number of neighbours. -/
def partnersWord (c : Dev nD) : BitVec 32 :=
  Scalar.addi 2#32 (Scalar.select (Scalar.andi (Scalar.cmpi .sge (yWord c) 1#32) (Scalar.cmpi .sle (yWord c) 2#32)) 1#32 0#32)
/-- The bit deciding the wait for chunk `k` at the end. -/
def recvBit (c : Dev nD) (k : BitVec 32) : BitVec 1 :=
  Scalar.cmpi .ne (Scalar.extui (Scalar.andi (Scalar.cmpi .ne (yWord c) k)
    (Scalar.xori (Scalar.andi (innerBit c) (Scalar.cmpi .eq (fWord c) k)) 1#1)) : BitVec 32) 0#32

theorem two_iff : ∀ c : Dev nD, Scalar.cmpi .ne (Scalar.extui (Scalar.cmpi .eq (partnersWord c) 2#32) : BitVec 32) 0#32 = 1#1
    ↔ decide (partners (yOf c) = 2) = true := by decide +kernel
theorem three_iff : ∀ c : Dev nD, Scalar.cmpi .ne (Scalar.extui (Scalar.cmpi .eq (partnersWord c) 3#32) : BitVec 32) 0#32 = 1#1
    ↔ decide (partners (yOf c) = 3) = true := by decide +kernel
theorem recv0_iff : ∀ c : Dev nD, recvBit c 0#32 = 1#1 ↔ direct (yOf c) 0 = true := by decide +kernel
theorem recv1_iff : ∀ c : Dev nD, recvBit c 1#32 = 1#1 ↔ direct (yOf c) 1 = true := by decide +kernel
theorem recv2_iff : ∀ c : Dev nD, recvBit c 2#32 = 1#1 ↔ direct (yOf c) 2 = true := by decide +kernel
theorem recv3_iff : ∀ c : Dev nD, recvBit c 3#32 = 1#1 ↔ direct (yOf c) 3 = true := by decide +kernel

/-! ### The offsets -/

theorem chk_val (c : Dev nD) : (if c.val / 4 % 4 = 1 then 3 else 0) = (chk (yOf c) 4).val := by
  revert c; decide +kernel

end Cert.Gather

end
-- ==== Proof.Chunks.lean ====
/-
  Chunks: the result buffer of a device as four chunks of 256 rows, what each chunk holds at the end, and the assertions
  that a device holds a chunk at a share.
-/
module

public import proofs.«01_k».proof.Proof.Line
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline library's rounds and this kernel's (duties numbered by slots). -/
abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The launch: arbitrary memory, every counter zero, arbitrary generator registers. -/
def s₀ : MemSt nD τ sig (Elt F) := ⟨m, fun _ => 0, ρ⟩

/-! ## The buffers -/

abbrev xM : Memref sig .tc .vmem S256x256 .bf16 := Memref.whole cc0_stg0_0
abbrev oM : Memref sig .tc .vmem S1024x256 .bf16 := Memref.whole cc0_stg1_0

theorem chunk_inb (k : Fin 4) : ∀ a, (![256 * k.val, 0] : Fin 2 → Nat) a + S256x256.size a ≤ S1024x256.size a := by
  revert k; decide +kernel

/-- The rows of chunk `k`. -/
abbrev chunkR (k : Fin 4) : Rect S1024x256 := Rect.unit (s := S1024x256) ![256 * k.val, 0] S256x256.size (chunk_inb k)
/-- Chunk `k` of the result buffer. -/
abbrev chunkM (k : Fin 4) : Memref sig .tc .vmem S256x256 .bf16 := oM.slice (chunkR k) (fun _ => rfl)

/-- The elements of chunk `k`. -/
abbrev chunkS (k : Fin 4) : Finset (S1024x256).Idx := (chunkM k).view.set

theorem mem_chunkS (k : Fin 4) (i : (S1024x256).Idx) : i ∈ chunkS k ↔ (i 0).val / 256 = k.val := by
  show i ∈ ((View.whole cc0_stg1_0).slice (chunkR k)).set ↔ _
  rw [View.set_slice_whole]
  refine Rect.mem_set_unit.trans ⟨fun h => ?_, fun h a => ?_⟩
  · have h0 : 256 * k.val ≤ (i 0).val ∧ (i 0).val < 256 * k.val + 256 := h 0
    omega
  · match a with
    | ⟨0, _⟩ => show 256 * k.val ≤ (i 0).val ∧ (i 0).val < 256 * k.val + 256; omega
    | ⟨1, _⟩ => show 0 ≤ (i 1).val ∧ (i 1).val < 0 + 256; exact ⟨Nat.zero_le _, by rw [Nat.zero_add]; exact (i 1).isLt⟩

theorem chunks_disjoint (k k' : Fin 4) (h : k ≠ k') : Disjoint (chunkS k) (chunkS k') :=
  Finset.disjoint_left.mpr fun i hi hi' => h (Fin.ext ((mem_chunkS k i).mp hi ▸ (mem_chunkS k' i).mp hi'))

theorem chunks_cover : (Finset.univ : Finset (Fin 4)).biUnion chunkS = (Finset.univ : Finset (S1024x256).Idx) := by
  ext i
  refine ⟨fun _ => Finset.mem_univ _, fun _ => Finset.mem_biUnion.mpr ?_⟩
  have hi : (i 0).val < 1024 := (i 0).isLt
  exact ⟨⟨(i 0).val / 256, by omega⟩, Finset.mem_univ _, (mem_chunkS _ _).mpr rfl⟩

/-! ## Contents -/

/-- Device `c`'s own input block, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The place whose chunk holds an element. -/
def rowPlace (i : (S1024x256).Idx) : Fin 4 := ⟨(i 0).val / 256, by have h : (i 0).val < 1024 := (i 0).isLt; omega⟩
/-- The element of the input block an element of the result comes from. -/
def rowIn (i : (S1024x256).Idx) : (S256x256).Idx := fun a => match a with
  | ⟨0, _⟩ => ⟨(i 0).val % 256, Nat.mod_lt _ (by decide)⟩
  | ⟨1, _⟩ => ⟨(i 1).val, (i 1).isLt⟩

/-- The gathered result on the line of `c`: chunk `k` is the block of the device at place `k`. -/
def gath (c : Dev nD) : (cc0_stg1_0 : Ref sig .tc).ty.Contents (Elt F) :=
  fun i => xstg m ρ (onLine c (rowPlace i)) (rowIn i)

omit [FloatOps F] in
/-- It is the same all along the line. -/
theorem gath_onLine (c : Dev nD) (y : Fin 4) : gath m ρ (onLine c y) = gath m ρ c := by
  funext i; unfold gath; rw [onLine_onLine]

/-! ## Holding a chunk -/

/-- Device `c` holds chunk `k` of its result buffer at share `q`, the buffer reading `f` there. -/
def chunkPts (c : Dev nD) (k : Fin 4) (q : PosShare TreeShare) (f : (cc0_stg1_0 : Ref sig .tc).ty.Contents (Elt F)) : sProp 𝕄 :=
  (chunkM k).view.loc (c : Thread nD τ) ↦[(chunkM k).view.set]{q} f

omit [FloatOps F] in
instance chunkPts_storable (c : Dev nD) (k q f) : BI.Storable (upEmb : UEmb _ 𝕄) (chunkPts (F := F) c k q f) := by unfold chunkPts; infer_instance

omit [FloatOps F] in
/-- The whole buffer is its four chunks. -/
theorem whole_chunks (c : Dev nD) (f : (cc0_stg1_0 : Ref sig .tc).ty.Contents (Elt F)) :
    ((((c : Thread nD τ).loc cc0_stg1_0) ↦{fullShare} f : sProp 𝕄))
      = iprop(chunkPts c 0 fullShare f ∗ chunkPts c 1 fullShare f ∗ chunkPts c 2 fullShare f ∗ chunkPts c 3 fullShare f) := by
  have h := pointsTo_biUnion (Ix := Unit) (Name := ℕ) (U := UU) (Lvl := ℕ) (ℓ := ((c : Thread nD τ).loc cc0_stg1_0)) (q := fullShare) (f := f)
    (Finset.univ : Finset (Fin 4)) chunkS (fun k _ k' _ hk => chunks_disjoint k k' hk)
  rw [chunks_cover] at h
  refine h.trans ?_
  rw [bigSep_univ_eq_bigSepL [(0 : Fin 4), 1, 2, 3] (by decide) (by decide)]
  rfl

/-- The share of its own chunk a device lends to slot `i`'s transfer. -/
def shareOf : Fin 5 → PosShare TreeShare
  | 0 => fullShare.left.left
  | 1 => fullShare.left.right
  | 2 => fullShare.right.left
  | 3 => fullShare.right.right
  | 4 => fullShare

omit [FloatOps F] in
/-- The full share of a chunk is the four slots' shares. -/
theorem chunk_shares (c : Dev nD) (k : Fin 4) (f) :
    chunkPts (F := F) c k fullShare f
      ⊣⊢ iprop(chunkPts c k (shareOf 0) f ∗ chunkPts c k (shareOf 1) f ∗ chunkPts c k (shareOf 2) f ∗ chunkPts c k (shareOf 3) f) := by
  have e (q : PosShare TreeShare) : (chunkPts (F := F) c k q f) ⊣⊢ iprop(chunkPts c k q.left f ∗ chunkPts c k q.right f) :=
    pointsTo_share (PosShare.mem_left_op_right q)
  constructor
  · iintro H
    ihave H := (e fullShare).1 $$ H
    icases H with ⟨HL, HR⟩
    ihave HL := (e fullShare.left).1 $$ HL
    ihave HR := (e fullShare.right).1 $$ HR
    icases HL with ⟨H0, H1⟩
    icases HR with ⟨H2, H3⟩
    isplitl [H0]; · iexact H0
    isplitl [H1]; · iexact H1
    isplitl [H2]; · iexact H2
    iexact H3
  · iintro ⟨H0, H1, H2, H3⟩
    iapply (e fullShare).2
    isplitl [H0 H1]
    · iapply (e fullShare.left).2; isplitl [H0]; · iexact H0
      iexact H1
    · iapply (e fullShare.right).2; isplitl [H2]; · iexact H2
      iexact H3

omit [FloatOps F] in
/-- Only the chunk's own elements matter. -/
theorem chunkPts_congr (c : Dev nD) (k q) {f g : (cc0_stg1_0 : Ref sig .tc).ty.Contents (Elt F)} (h : ∀ i ∈ chunkS k, f i = g i) :
    chunkPts (F := F) c k q f = chunkPts c k q g := pointsTo_congr h

omit [FloatOps F] in
/-- A chunk landed from a buffer reading `g` reads `g`. -/
theorem landed_chunk (c : Dev nD) (k : Fin 4) (f g : (cc0_stg1_0 : Ref sig .tc).ty.Contents (Elt F)) :
    chunkPts (F := F) c k fullShare ((chunkM k).view.write (Elt F) f ((chunkM k).view.read (Elt F) g) Finset.univ)
      = chunkPts c k fullShare g := by
  refine chunkPts_congr c k _ fun i hi => ?_
  rw [View.write_read_eq_piecewise, Finset.piecewise_eq_of_mem _ _ _ (by exact hi)]

omit [FloatOps F] in
/-- A device's own block stored into its own chunk is the gathered result there. -/
theorem stored_chunk (c : Dev nD) (q) (f : (cc0_stg1_0 : Ref sig .tc).ty.Contents (Elt F)) :
    chunkPts (F := F) c (yOf c) q ((chunkM (yOf c)).view.write (Elt F) f (xstg m ρ c) Finset.univ)
      = chunkPts c (yOf c) q (gath m ρ c) := by
  refine chunkPts_congr c _ q fun i hi => ?_
  have hk := (mem_chunkS _ i).mp hi
  obtain ⟨x, rfl⟩ := View.exists_emb_of_mem_set (chunkM (yOf c)).view hi
  rw [View.write_emb_of_mem _ _ (Finset.mem_univ x)]
  show xstg m ρ c x = _
  unfold gath
  have h0 : (((chunkM (yOf c)).view.emb x) 0).val = 256 * (yOf c).val + 1 * (x 0).val := rfl
  have h1 : (((chunkM (yOf c)).view.emb x) 1).val = 0 + 1 * (x 1).val := rfl
  have hx : (x 0).val < 256 := (x 0).isLt
  have e1 : rowPlace ((chunkM (yOf c)).view.emb x) = yOf c := Fin.ext hk
  have e2 : rowIn ((chunkM (yOf c)).view.emb x) = x := by
    funext a
    match a with
    | ⟨0, _⟩ => apply Fin.ext; show (((chunkM (yOf c)).view.emb x) 0).val % 256 = (x 0).val; omega
    | ⟨1, _⟩ => apply Fin.ext; show (((chunkM (yOf c)).view.emb x) 1).val = (x 1).val; omega
  rw [e1, e2, onLine_self]

end Cert.Gather

end
-- ==== Proof.Sched.lean ====
/-
  Sched: the semaphore cells of a device, who pays what to them and what the payment hands over, the levels of the cells,
  and what a device owes at the start.

  Every cell has one round. A device's barrier cell takes one unit from each of its neighbours, and with it the room on the
  neighbour for the chunk the device will send there (from one of them also the room for the chunk it will forward). The
  receive cell of chunk `k` takes the credit of that chunk's landing, and with it the chunk, gathered. The send cell of
  slot `i` takes the same credit, and gives back the share of the chunk lent to the transfer.
-/
module

public import proofs.«01_k».proof.Proof.Chunks

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

/-! ## Assertions under a condition -/

/-- `P` where `b` holds, nothing otherwise. -/
def guard {M : Type} [RA.URA M] (b : Bool) (P : sProp M) : sProp M := if b = true then P else iprop(emp)

section Guard
variable {M : Type} [RA.URA M] {b : Bool} {P : sProp M}
theorem guard_pos (h : b = true) : guard b P = P := if_pos h
theorem guard_neg (h : ¬ b = true) : guard b P = iprop(emp) := if_neg h
end Guard

/-! ## The cells -/

/-- The kinds of cell: the barrier, the send cell of a slot, the receive cell of a chunk. -/
abbrev Kd : Type := Unit ⊕ Fin 5 ⊕ Fin 4

abbrev kBar : Kd := .inl ()
abbrev kSnd (i : Fin 5) : Kd := .inr (.inl i)
abbrev kRcv (k : Fin 4) : Kd := .inr (.inr k)

abbrev barS : Sem sig := barrier0
/-- The send semaphore of slot `i`, the receive semaphore of chunk `k`. -/
def sndS (i : Fin 5) : DmaSem sig := ⟨2 + i.val, by have := i.isLt; show _ < 11; omega⟩
def rcvS (k : Fin 4) : DmaSem sig := ⟨7 + k.val, by have := k.isLt; show _ < 11; omega⟩

@[reducible] def csem : Kd → SemLoc sig
  | .inl _ => .reg barS
  | .inr (.inl i) => .dma (sndS i)
  | .inr (.inr k) => .dma (rcvS k)

/-- The kind of a semaphore, if it is one of these. -/
def kindOf : SemLoc sig → Option Kd
  | .reg s => if s = barS then some kBar else none
  | .dma q => if h : 2 ≤ q.val ∧ q.val < 7 then some (kSnd ⟨q.val - 2, by omega⟩)
      else if h' : 7 ≤ q.val then some (kRcv ⟨q.val - 7, by have h2 : q.val < 11 := q.isLt; omega⟩) else none

theorem kindOf_csem : ∀ k : Kd, kindOf (csem k) = some k := by decide +kernel
theorem csem_injective : Function.Injective csem := fun a b h => Option.some.inj (by rw [← kindOf_csem a, ← kindOf_csem b, h])

abbrev kcell (ck : Dev nD × Kd) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : k = k' := csem_injective (congrArg (fun g : GSem nD τ sig => g.2) h)
  rw [h1, h2]

/-- The credit of a chunk's transfer. -/
def N : ℕ := (chunkM 0).view.dmaCredit
theorem credit_chunk (k : Fin 4) : (chunkM k).view.dmaCredit = N := rfl
theorem N_pos : 0 < N := View.dmaCredit_pos _ (by decide)

variable {F : FTy → Type} [FloatOps F]

local notation "𝕄" => MT nD τ sig Unit (Elt F) ℕ UU ℕ

variable (m : (ℓ : Loc nD τ sig) → Buf (Elt F) ℓ) (ρ : Dev nD → PrngReg)

/-! ## The schedule -/

/-- What the unit device `e` gets from its neighbour in slot `i` brings: the room on that neighbour for `e`'s own chunk, and
    from one neighbour of an inner device the room for the chunk to forward. -/
def barPay (e : Dev nD) (i : Fin 5) : sProp 𝕄 :=
  iprop((∃ f, chunkPts (dst e i) (yOf e) fullShare f)
    ∗ guard (carries (yOf e) i) iprop(∃ f, chunkPts (dst e 4) (chk (yOf e) 4) fullShare f))
/-- What the end of slot `i`'s transfer gives back: the share of the chunk it read. -/
def sndPay (c : Dev nD) (i : Fin 5) : sProp 𝕄 := chunkPts c (chk (yOf c) i) (shareOf i) (gath m ρ c)
/-- What the landing of chunk `k` brings. -/
def rcvPay (c : Dev nD) (k : Fin 4) : sProp 𝕄 := chunkPts c k fullShare (gath m ρ c)

def dutiesK (c : Dev nD) : Option Kd → Finset (Fin 5)
  | some (.inl _) => Finset.univ.filter fun i => (decide (i ≠ 4) && uses (yOf c) i) = true
  | some (.inr (.inl i)) => if uses (yOf c) i = true then {0} else ∅
  | some (.inr (.inr k)) => if k ≠ yOf c then {0} else ∅
  | none => ∅
def amountK : Option Kd → ℕ
  | some (.inl _) => 1
  | _ => N
def payK (c : Dev nD) (d : Fin 5) : Option Kd → sProp 𝕄
  | some (.inl _) => barPay c d
  | some (.inr (.inl i)) => sndPay m ρ c i
  | some (.inr (.inr k)) => rcvPay m ρ c k
  | none => iprop(emp)

omit [FloatOps F] in
theorem amountK_pos (k : Option Kd) : 0 < amountK k := by
  match k with
  | some (.inl _) => exact Nat.one_pos
  | some (.inr (.inl i)) => exact N_pos
  | some (.inr (.inr k)) => exact N_pos
  | none => exact N_pos

def gRd : Rounds.Schedule (GSem nD τ sig) (Fin 5) 𝕄 where
  duties g r := if r = 0 ∧ g.1.2 = .tc then dutiesK g.1.1 (kindOf g.2) else ∅
  unitless _ := False
  amount g _ _ := amountK (kindOf g.2)
  payload g _ d := payK m ρ g.1.1 d (kindOf g.2)
  amount_pos g _ _ _ := amountK_pos _

omit [FloatOps F] in
instance guard_storable (b : Bool) (P : sProp 𝕄) [BI.Storable (upEmb : UEmb _ 𝕄) P] : BI.Storable (upEmb : UEmb _ 𝕄) (guard b P) := by
  unfold guard; split <;> infer_instance

omit [FloatOps F] in
instance gRd_payload_storable (g : GSem nD τ sig) (r : ℕ) (d : Fin 5) :
    BI.Storable (upEmb : UEmb _ 𝕄) ((gRd (F := F) m ρ).payload g r d) := by
  show BI.Storable upEmb (payK m ρ g.1.1 d (kindOf g.2))
  unfold payK barPay sndPay rcvPay
  split <;> infer_instance

section Sched
variable (c : Dev nD)

omit [FloatOps F] in
theorem duties_eq (k : Kd) : (gRd (F := F) m ρ).duties (kcell (c, k)) 0 = dutiesK c (some k) := by
  dsimp only [gRd]; rw [if_pos ⟨rfl, rfl⟩, kindOf_csem]
omit [FloatOps F] in
theorem duties_later (g : GSem nD τ sig) : ∀ r, 1 ≤ r → (gRd (F := F) m ρ).duties g r = ∅ :=
  fun r hr => by dsimp only [gRd]; rw [if_neg fun h => by omega]
omit [FloatOps F] in
theorem amount_eq (k : Kd) (r : ℕ) (d : Fin 5) : (gRd (F := F) m ρ).amount (kcell (c, k)) r d = amountK (some k) := by
  dsimp only [gRd]; rw [kindOf_csem]
omit [FloatOps F] in
theorem payload_eq (k : Kd) (r : ℕ) (d : Fin 5) : (gRd (F := F) m ρ).payload (kcell (c, k)) r d = payK m ρ c d (some k) := by
  dsimp only [gRd]; rw [kindOf_csem]

omit [FloatOps F] in
theorem payload_bar (d : Fin 5) : (gRd (F := F) m ρ).payload (kcell (c, kBar)) 0 d = barPay c d := payload_eq m ρ c kBar 0 d
omit [FloatOps F] in
theorem payload_snd (i d : Fin 5) : (gRd (F := F) m ρ).payload (kcell (c, kSnd i)) 0 d = sndPay m ρ c i := payload_eq m ρ c (kSnd i) 0 d
omit [FloatOps F] in
theorem payload_rcv (k : Fin 4) (d : Fin 5) : (gRd (F := F) m ρ).payload (kcell (c, kRcv k)) 0 d = rcvPay m ρ c k := payload_eq m ρ c (kRcv k) 0 d

omit [FloatOps F] in
theorem duties_unused (i : Fin 5) (h : ¬ uses (yOf c) i = true) : ∀ r, 0 ≤ r → (gRd (F := F) m ρ).duties (kcell (c, kSnd i)) r = ∅ := by
  intro r _
  rcases Nat.eq_zero_or_pos r with rfl | hr
  · rw [duties_eq]
    show (if _ then _ else _ : Finset (Fin 5)) = ∅
    rw [if_neg h]
  · exact duties_later m ρ _ r hr
omit [FloatOps F] in
theorem duties_own : ∀ r, 0 ≤ r → (gRd (F := F) m ρ).duties (kcell (c, kRcv (yOf c))) r = ∅ := by
  intro r _
  rcases Nat.eq_zero_or_pos r with rfl | hr
  · rw [duties_eq]
    show (if _ then _ else _ : Finset (Fin 5)) = ∅
    rw [if_neg (fun h => h rfl)]
  · exact duties_later m ρ _ r hr

omit [FloatOps F] in
theorem expect_bar : (gRd (F := F) m ρ).expect (kcell (c, kBar)) 0 = partners (yOf c) := by
  unfold Schedule.expect Schedule.amountOf
  rw [duties_eq, Finset.sum_congr rfl fun d _ => amount_eq m ρ c kBar 0 d]
  show (∑ _ ∈ dutiesK c (some kBar), 1) = _
  rw [Finset.sum_const, smul_eq_mul, Nat.mul_one]
  unfold dutiesK
  generalize yOf c = y
  revert y; decide +kernel
omit [FloatOps F] in
theorem expect_snd (i : Fin 5) (h : uses (yOf c) i = true) : (gRd (F := F) m ρ).expect (kcell (c, kSnd i)) 0 = N := by
  unfold Schedule.expect Schedule.amountOf
  rw [duties_eq, Finset.sum_congr rfl fun d _ => amount_eq m ρ c (kSnd i) 0 d]
  show (∑ _ ∈ (if uses (yOf c) i = true then {0} else ∅ : Finset (Fin 5)), N) = N
  rw [if_pos h, Finset.sum_singleton]
omit [FloatOps F] in
theorem expect_rcv (k : Fin 4) (h : k ≠ yOf c) : (gRd (F := F) m ρ).expect (kcell (c, kRcv k)) 0 = N := by
  unfold Schedule.expect Schedule.amountOf
  rw [duties_eq, Finset.sum_congr rfl fun d _ => amount_eq m ρ c (kRcv k) 0 d]
  show (∑ _ ∈ (if k ≠ yOf c then {0} else ∅ : Finset (Fin 5)), N) = N
  rw [if_pos h, Finset.sum_singleton]

/-- What the neighbour in slot `i` hands over, over the slots in use. -/
def barGot (e : Dev nD) (i : Fin 5) : sProp 𝕄 := guard (uses (yOf e) i) (barPay e i)

omit [FloatOps F] in
theorem rest_bar : bigSep ((gRd (F := F) m ρ).duties (kcell (c, kBar)) 0 \ ∅) (fun d => (gRd (F := F) m ρ).payload (kcell (c, kBar)) 0 d)
    = iprop(barGot c 0 ∗ barGot c 1 ∗ barGot c 2 ∗ barGot c 3 ∗ emp) := by
  rw [Finset.sdiff_empty, duties_eq]
  unfold dutiesK
  rw [bigSep_filter, bigSep_univ_eq_bigSepL [(0 : Fin 5), 1, 2, 3, 4] (by decide) (by decide)]
  simp only [payload_eq, bigSepL_cons_cons, bigSepL_singleton]
  rfl
omit [FloatOps F] in
theorem rest_snd (i : Fin 5) (h : uses (yOf c) i = true) :
    bigSep ((gRd (F := F) m ρ).duties (kcell (c, kSnd i)) 0 \ ∅) (fun d => (gRd (F := F) m ρ).payload (kcell (c, kSnd i)) 0 d) = sndPay m ρ c i := by
  rw [Finset.sdiff_empty, duties_eq]
  show bigSep (if uses (yOf c) i = true then {0} else ∅ : Finset (Fin 5)) _ = _
  rw [if_pos h, bigSep_singleton, payload_eq]; rfl
omit [FloatOps F] in
theorem rest_rcv (k : Fin 4) (h : k ≠ yOf c) :
    bigSep ((gRd (F := F) m ρ).duties (kcell (c, kRcv k)) 0 \ ∅) (fun d => (gRd (F := F) m ρ).payload (kcell (c, kRcv k)) 0 d) = rcvPay m ρ c k := by
  rw [Finset.sdiff_empty, duties_eq]
  show bigSep (if k ≠ yOf c then {0} else ∅ : Finset (Fin 5)) _ = _
  rw [if_pos h, bigSep_singleton, payload_eq]; rfl

end Sched

/-! ## What a device owes; the levels -/

/-- The unit owed to the neighbour in slot `i`; the credit owed to the landing cell slot `i`'s transfer goes to. -/
def oSig (c : Dev nD) (i : Fin 5) : CellTallies nD τ sig Unit :=
  if uses (yOf c) i = true then tallyAt (kcell (dst c i, kBar)) () 1 else 0
def oSnd (c : Dev nD) (i : Fin 5) : CellTallies nD τ sig Unit :=
  if uses (yOf c) i = true then tallyAt (kcell (dst c i, kRcv (chk (yOf c) i))) () N else 0

/-- All a device owes at the start, the first payment outermost. -/
def oSends (c : Dev nD) : CellTallies nD τ sig Unit := 0 + oSnd c 4 + oSnd c 3 + oSnd c 2 + oSnd c 1 + oSnd c 0
def O₀ (c : Dev nD) : CellTallies nD τ sig Unit := oSends c + oSig c 3 + oSig c 2 + oSig c 1 + oSig c 0

def L (g : GSem nD τ sig) : Finset Unit := if g.1.2 = .tc then {()} else ∅
def lvK (c : Dev nD) : Option Kd → ℕ
  | some (.inl _) => 1
  | some (.inr (.inr k)) => if viaHop (yOf c) k = true then 3 else 2
  | _ => 0
/-- Barrier cells at 1, landing cells at 2, those of the forwarding hop at 3, everything else at 0. -/
def lv (g : GSem nD τ sig) (_ : Unit) : ℕ := lvK g.1.1 (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Kd) (u : Unit) : lv (kcell (c, k)) u = lvK c (some k) := by
  unfold lv; rw [kindOf_csem]

/-- Everything owed is above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0
theorem above_tally {n k : ℕ} (c : Dev nD) (kd : Kd) (h : n < lvK c (some kd)) : Above n (tallyAt (kcell (c, kd)) () k) := by
  intro g u hg
  rw [tallyAt_apply] at hg
  by_cases hc : g = kcell (c, kd) ∧ u = ()
  · rw [hc.1]; exact ⟨rfl, by rw [lv_kcell]; exact h⟩
  · rw [if_neg hc] at hg; exact absurd hg (Nat.lt_irrefl 0)
theorem above_oSig {n : ℕ} (c : Dev nD) (i : Fin 5) (h : n < 1) : Above n (oSig c i) := by
  unfold oSig; split
  · exact above_tally _ _ h
  · exact above_zero n
theorem above_oSnd {n : ℕ} (c : Dev nD) (i : Fin 5) (h : n < 2) : Above n (oSnd c i) := by
  unfold oSnd; split
  · refine above_tally _ _ ?_
    show n < if _ then 3 else 2
    split <;> omega
  · exact above_zero n
theorem above_hop {n : ℕ} (c : Dev nD) (h : n < 3) : Above n (oSnd c 4) := by
  unfold oSnd; split
  · next hu =>
    refine above_tally _ _ ?_
    have e : viaHop (yOf (dst c 4)) (chk (yOf c) 4) = true := by
      unfold dst; rw [yOf_onLine]
      generalize yOf c = y at hu; revert y; decide +kernel
    show n < if _ then 3 else 2
    rw [if_pos e]; exact h
  · exact above_zero n
theorem above_oSends {n : ℕ} (c : Dev nD) (h : n < 2) : Above n (oSends c) :=
  above_add (above_add (above_add (above_add (above_add (above_zero n) (above_oSnd c 4 h)) (above_oSnd c 3 h)) (above_oSnd c 2 h)) (above_oSnd c 1 h)) (above_oSnd c 0 h)
theorem above_O₀ (c : Dev nD) : Above 0 (O₀ c) :=
  above_add (above_add (above_add (above_add (above_oSends c (by decide)) (above_oSig c 3 (by decide))) (above_oSig c 2 (by decide))) (above_oSig c 1 (by decide))) (above_oSig c 0 (by decide))

omit [FloatOps F] in
/-- A wait below everything owed is allowed. -/
theorem mayWait_above (c : Dev nD) (sm : SemLoc sig) {n : ℕ} {O : CellTallies nD τ sig Unit} (hO : Above n O) (hs : lv ((c : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hs)
    (fun g u hg => (hO g u hg).2)

end Cert.Gather

end
-- ==== Proof.Steps.lean ====
/-
  Steps: one lemma for each kind of conditional statement of the kernel's body — the signal to a neighbour, the barrier
  wait, the transfer to a neighbour, the wait for a landing, the wait for the end of a transfer, and the forwarding hop —
  each over the slot or the chunk it is about. The condition the program computes is given as equivalent to an entry of the
  line's tables; what a step uses and leaves is held under that entry.
-/
module

public import proofs.«01_k».proof.Proof.Sched

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`. -/
def wpD (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- Every cell's invariant, at some name, and that its round is open. -/
def recs (K : Dev nD × Kd → ℕ) : sProp 𝕄 :=
  bigSep Finset.univ fun ck : Dev nD × Kd => iprop(cellInv ER (gRd m ρ) (K ck) (kcell ck) ∗ reached ER (kcell ck) 0)

instance recs_persistent (K : Dev nD × Kd → ℕ) : BI.Persistent (recs (F := F) m ρ K) := by unfold recs; infer_instance

omit [FloatOps F] in
theorem recs_at (K : Dev nD × Kd → ℕ) (ck : Dev nD × Kd) :
    recs (F := F) m ρ K ⊢ iprop(cellInv ER (gRd m ρ) (K ck) (kcell ck) ∗ reached ER (kcell ck) 0) := by
  unfold recs; exact bigSep_elim (Finset.mem_univ ck)

/-- Device `c` owes `O`. -/
def owing (c : Dev nD) (O : CellTallies nD τ sig Unit) : sProp 𝕄 := iprop(∃ W : Waits sig Unit, owes (c : Thread nD τ) O W)

variable (K : Dev nD × Kd → ℕ) (c : Dev nD)

/-! ## The tables at work -/

theorem rev_uses : ∀ (y : Fin 4) (i : Fin 5), i ≠ 4 → uses y i = true → (decide (rev i ≠ 4) && uses (tgt y i) (rev i)) = true := by decide +kernel
theorem tgt_ne : ∀ (y : Fin 4) (i : Fin 5), uses y i = true → chk y i ≠ tgt y i := by decide +kernel

omit [FloatOps F] in
theorem duty_bar (i : Fin 5) (hi : i ≠ 4) (h : uses (yOf c) i = true) : rev i ∈ (gRd (F := F) m ρ).duties (kcell (dst c i, kBar)) 0 := by
  rw [duties_eq]
  refine Finset.mem_filter.mpr ⟨Finset.mem_univ _, ?_⟩
  unfold dst; rw [yOf_onLine]
  exact rev_uses _ i hi h
omit [FloatOps F] in
theorem duty_snd (i : Fin 5) (h : uses (yOf c) i = true) : (0 : Fin 5) ∈ (gRd (F := F) m ρ).duties (kcell (c, kSnd i)) 0 := by
  rw [duties_eq]
  show (0 : Fin 5) ∈ (if _ then _ else _ : Finset (Fin 5))
  rw [if_pos h]; exact Finset.mem_singleton_self _
omit [FloatOps F] in
theorem duty_rcv (i : Fin 5) (h : uses (yOf c) i = true) : (0 : Fin 5) ∈ (gRd (F := F) m ρ).duties (kcell (dst c i, kRcv (chk (yOf c) i))) 0 := by
  rw [duties_eq]
  show (0 : Fin 5) ∈ (if _ then _ else _ : Finset (Fin 5))
  have e : chk (yOf c) i ≠ yOf (dst c i) := by unfold dst; rw [yOf_onLine]; exact tgt_ne _ i h
  rw [if_pos e]; exact Finset.mem_singleton_self _

/-! ## The signal in slot `i` -/

/-- What the signal in slot `i` needs: the token of the duty it pays, and what it hands over. -/
def sigNeeds (i : Fin 5) : sProp 𝕄 :=
  guard (uses (yOf c) i) iprop(dutyTok ER (kcell (dst c i, kBar)) 0 (rev i) ∗ barPay (dst c i) (rev i))

theorem sig_step (i : Fin 5) (hi : i ≠ 4) {C : Prop} [Decidable C] (hC : C ↔ uses (yOf c) i = true)
    {n : C → ℕ} {hn : ∀ h, n h < nD} (hdev : uses (yOf c) i = true → ∀ h, n h = (dst c i).val) {s : Sem sig} (hs : s = barS)
    (O : CellTallies nD τ sig Unit) {α : Type} {Q : α → sProp 𝕄} {k : Prog (TpuEff nD τ sig (Elt F) Λ₀ .tc) α} :
    iprop(recs m ρ K ∗ owing c (O + oSig c i) ∗ sigNeeds c i)
      ⊢ iprop((owing c O -∗ wpD c k Q)
          -∗ wpD c (dite C (fun h => semSignalWord (⟨n h, hn h⟩ : Dev nD) s 1#32 >>= fun _ => k) (fun _ => k)) Q) := by
  subst hs
  unfold sigNeeds owing oSig wpD
  by_cases h : C
  · have hu := hC.mp h
    rw [dif_pos h, guard_pos hu, if_pos hu]
    have hd : (⟨n h, hn h⟩ : Dev nD) = dst c i := Fin.ext (hdev hu h)
    rw [hd]
    simp only [semSignalWord, Prog.lift, Prog.bind_op, Prog.bind_ret]
    iintro ⟨#Hrecs, ⟨%W, HO⟩, Htok, Hpay⟩ Hk
    ihave Hrec := (recs_at m ρ K (dst c i, kBar)) $$ Hrecs
    icases Hrec with ⟨#HI, #Hr⟩
    iapply (Rounds.wp_signal 𝒱₀ ER (gRd m ρ) (c : Thread nD τ) none (dst := (dst c i : Thread nD τ)) (κ := K (dst c i, kBar))
      (d := rev i) (duty_bar m ρ c i hi hu) ((amount_eq m ρ (dst c i) kBar 0 (rev i)).trans (by decide)) () O rfl) $$ [HO Htok Hpay]
    · isplitr; · iexact HI
      isplitl [HO]; · iexact HO
      isplitl [Htok]; · iexact Htok
      isplitl [Hpay]; · iapply (Entails.of_eq (payload_bar m ρ (dst c i) (rev i)).symm); iexact Hpay
      iexact Hr
    iintro HO
    iapply Hk
    iexists W; iexact HO
  · have hu : ¬ uses (yOf c) i = true := fun h' => h (hC.mpr h')
    rw [dif_neg h, guard_neg hu, if_neg hu, add_zero]
    iintro ⟨-, HO, -⟩ Hk
    iapply Hk; iexact HO

/-! ## The barrier wait -/

/-- Before the barrier wait (`done = false`): its credit and the position at its round. After: what the neighbours handed
    over, and the counter at zero. -/
def barSt (done : Bool) : sProp 𝕄 :=
  if done = true then iprop((barGot c 0 ∗ barGot c 1 ∗ barGot c 2 ∗ barGot c 3 ∗ emp) ∗ semVal (kcell (c, kBar)) 0)
  else iprop(cred (tallyAt (kcell (c, kBar)) () (partners (yOf c))) ∗ atPos ER (kcell (c, kBar)) 0 ∅ 0)

theorem barwait_core {n : ℕ} (hp : partners (yOf c) = n) {O : CellTallies nD τ sig Unit} (hO : Above 1 O)
    {α : Type} {Q : α → sProp 𝕄} {k : PUnit → Prog (TpuEff nD τ sig (Elt F) Λ₀ .tc) α} :
    iprop(recs m ρ K ∗ levAts L lv ∗ owing c O ∗ cred (tallyAt (kcell (c, kBar)) () (partners (yOf c))) ∗ atPos ER (kcell (c, kBar)) 0 ∅ 0)
      ⊢ iprop(((owing c O ∗ (barGot c 0 ∗ barGot c 1 ∗ barGot c 2 ∗ barGot c 3 ∗ emp) ∗ semVal (kcell (c, kBar)) 0) -∗ wpD c (k ⟨⟩) Q)
          -∗ wpD c (.op (.semWait barS n) k) Q) := by
  subst hp
  unfold owing wpD
  have hx : 0 + partners (yOf c) = (gRd (F := F) m ρ).expect ((c : Thread nD τ), .reg barS) 0 := by
    rw [Nat.zero_add]; exact (expect_bar m ρ c).symm
  have hw : (levAts L lv : sProp 𝕄) ⊢ MayWait (c : Thread nD τ) (.reg barS) () O :=
    mayWait_above c (.reg barS) hO (le_of_eq (lv_kcell c kBar ()))
  generalize partners (yOf c) = n at hx
  iintro ⟨#Hrecs, #Hlev, ⟨%W, HO⟩, Hc, Hat⟩ Hk
  ihave Hrec := (recs_at m ρ K (c, kBar)) $$ Hrecs
  icases Hrec with ⟨#HI, -⟩
  iapply (Rounds.wp_wait_rest_token 𝒱₀ ER (gRd m ρ) (c : Thread nD τ) none (κ := K (c, kBar))
    (wpE_semWait_eq 𝒱₀ (c : Thread nD τ) none Set.univ) (Set.mem_univ _) () (O := O) (W := W) (R := 0) (m := 0) (T := ∅)
    hx) $$ [Hc HO Hat]
  · isplitr; · iexact HI
    isplitl [Hc]; · iexact Hc
    isplitl [HO]; · iexact HO
    isplitr; · iapply hw; iexact Hlev
    iexact Hat
  iintro ⟨HO, Hat, -, Hpay⟩
  ihave Hp := (Entails.of_eq (rest_bar m ρ c)) $$ Hpay
  imod (Rounds.cell_close ER (gRd m ρ) (Set.mem_univ (K (c, kBar))) (fun h => h) (R := 0 + 1) (duties_later m ρ (kcell (c, kBar)))) $$ [Hat] with Hz
  · isplitr; · iexact HI
    iexact Hat
  iapply Hk
  isplitl [HO]; · iexists _; iexact HO
  isplitl [Hp]; · iexact Hp
  iexact Hz

theorem barwait_step (b : Bool) (n : ℕ) {w : BitVec 32} (hw : w.toInt = (n : ℤ)) {C : Prop} [Decidable C] (hC : C ↔ decide (partners (yOf c) = n) = true) (hb : C → b = false)
    {s : Sem sig} (hs : s = barS) {O : CellTallies nD τ sig Unit} (hO : Above 1 O)
    {α : Type} {Q : α → sProp 𝕄} {k : Prog (TpuEff nD τ sig (Elt F) Λ₀ .tc) α} :
    iprop(recs m ρ K ∗ levAts L lv ∗ owing c O ∗ barSt c b)
      ⊢ iprop(((owing c O ∗ barSt c (b || decide (partners (yOf c) = n))) -∗ wpD c k Q)
          -∗ wpD c (dite C (fun _ => semWaitWord s w >>= fun _ => k) (fun _ => k)) Q) := by
  subst hs
  by_cases h : C
  · have hu := hC.mp h
    have hp : partners (yOf c) = n := of_decide_eq_true hu
    rw [dif_pos h, hu, hb h]
    simp only [semWaitWord, Prog.lift, Prog.bind_op, Prog.bind_ret]
    rw [hw]
    exact barwait_core m ρ K c hp hO (k := fun _ => k)
  · have hu : decide (partners (yOf c) = n) = false := by
      rw [← Bool.not_eq_true]; exact fun h' => h (hC.mpr h')
    rw [dif_neg h, hu, Bool.or_false]
    iintro ⟨-, -, HO, Hst⟩ Hk
    iapply Hk
    isplitl [HO]; · iexact HO
    iexact Hst

/-! ## A transfer -/

omit [FloatOps F] in
/-- What names a chunk of the buffer by its offsets is that chunk. -/
theorem slice_chunk (k : Fin 4) {off : Fin 2 → Nat} (h : off = ![256 * k.val, 0]) (inb : ∀ a, off a + S256x256.size a ≤ S1024x256.size a)
    (hs : ∀ a, (Rect.unit (s := S1024x256) off S256x256.size inb).stride a = 1) :
    (oM.slice (Rect.unit (s := S1024x256) off S256x256.size inb) hs : Memref sig .tc .vmem S256x256 .bf16) = chunkM k := by
  subst h; rfl

theorem rcv_sem : ∀ (k : Fin 4) (inb : ∀ a, (![k.val] : Fin 1 → Nat) a + S1.size a ≤ S4.size a),
    ((cc0_scratch1.slice (Rect.unit (s := S4) ![k.val] S1.size inb)).squeeze S_ squeezes_S1_S_).sem = rcvS k := by decide +kernel
theorem snd_sem : ∀ (i : Fin 5) (inb : ∀ a, (![i.val] : Fin 1 → Nat) a + S1.size a ≤ S5.size a),
    ((cc0_scratch0.slice (Rect.unit (s := S5) ![i.val] S1.size inb)).squeeze S_ squeezes_S1_S_).sem = sndS i := by decide +kernel
theorem rcv_sem' (k : Fin 4) {off : Fin 1 → Nat} (h : off = ![k.val]) (inb : ∀ a, off a + S1.size a ≤ S4.size a) :
    ((cc0_scratch1.slice (Rect.unit (s := S4) off S1.size inb)).squeeze S_ squeezes_S1_S_).sem = rcvS k := by
  subst h; exact rcv_sem k inb

/-- The tokens of the two duties slot `i`'s transfer pays. -/
def sndToks (i : Fin 5) : sProp 𝕄 :=
  iprop(dutyTok ER (kcell (c, kSnd i)) 0 0 ∗ dutyTok ER (kcell (dst c i, kRcv (chk (yOf c) i))) 0 0)
/-- The room slot `i`'s transfer lands in. -/
def room (i : Fin 5) : sProp 𝕄 := iprop(∃ f, chunkPts (dst c i) (chk (yOf c) i) fullShare f)
/-- The end of slot `i`'s transfer may be waited for. -/
def sndCred (i : Fin 5) : sProp 𝕄 := cred (tallyAt (kcell (c, kSnd i)) () N)

/-- The transfer in slot `i`, issued. -/
theorem send_core (i : Fin 5) (hu : uses (yOf c) i = true) {M : Memref sig .tc .vmem S256x256 .bf16} (hM : M = chunkM (chk (yOf c) i))
    {n : Dev nD} (hn : n = dst c i) {s s' : DmaSem sig} (hs : s = sndS i) (hs' : s' = rcvS (chk (yOf c) i)) (O : CellTallies nD τ sig Unit)
    {hsc : (M : Memref sig (n : Thread nD τ).2.kind .vmem S256x256 .bf16).view.ref.isScScratch = false}
    {hsrc : M.view.WordExact} {hdst : M.view.WordExact}
    {hsem : DmaTarget.Typed .vmem (.dma s') (.remote (n : Thread nD τ) (M : Memref sig (n : Thread nD τ).2.kind .vmem S256x256 .bf16) (.dma s) hsc)}
    {α : Type} {Q : α → sProp 𝕄} {k : PUnit → Prog (TpuEff nD τ sig (Elt F) Λ₀ .tc) α} :
    iprop(recs m ρ K ∗ owing c (O + tallyAt (kcell (dst c i, kRcv (chk (yOf c) i))) () N) ∗ sndPay m ρ c i ∗ room c i ∗ sndToks c i)
      ⊢ iprop(((owing c O ∗ sndCred c i) -∗ wpD c (k ⟨⟩) Q)
          -∗ wpD c (.op (.enqueueDma M (.remote (n : Thread nD τ) M (.dma s) hsc) (.dma s') hsrc hdst hsem) k) Q) := by
  subst hM; subst hn; subst hs; subst hs'
  unfold owing room sndToks sndCred wpD
  iintro ⟨#Hrecs, ⟨%W, HO⟩, Hsrc, ⟨%fd, Hdst⟩, HtS, HtR⟩ Hk
  ihave Hrec := (recs_at m ρ K (c, kSnd i)) $$ Hrecs
  icases Hrec with ⟨#HIs, #HrS⟩
  ihave Hrec := (recs_at m ρ K (dst c i, kRcv (chk (yOf c) i))) $$ Hrecs
  icases Hrec with ⟨#HIr, #HrR⟩
  have h1 := (Entails.of_eq (payload_snd m ρ c i 0).symm)
  have h2 := (Entails.of_eq ((landed_chunk (dst c i) (chk (yOf c) i) fd (gath m ρ c)).trans
      ((congrArg (chunkPts (dst c i) (chk (yOf c) i) fullShare) (gath_onLine m ρ c (tgt (yOf c) i)).symm).trans
        (payload_rcv m ρ (dst c i) (chk (yOf c) i) 0).symm)))
  have hN : (chunkM (chk (yOf c) i)).view.amount (.dma (rcvS (chk (yOf c) i))) = N := credit_chunk _
  have k1 : (gRd (F := F) m ρ).amount ((c : Thread nD τ), .dma (sndS i)) 0 0 = N := amount_eq m ρ c (kSnd i) 0 0
  have k2 : (gRd (F := F) m ρ).amount ((dst c i : Thread nD τ), .dma (rcvS (chk (yOf c) i))) 0 0 = N := amount_eq m ρ (dst c i) (kRcv (chk (yOf c) i)) 0 0
  have hr : τ.routes (c : Thread nD τ) (dst c i : Thread nD τ) = true := by routes
  iapply (Rounds.wp_send_pointsTo 𝒱₀ ER (gRd m ρ) (c : Thread nD τ) none (κ₁ := K (c, kSnd i)) (κ₂ := K (dst c i, kRcv (chk (yOf c) i)))
    (src := chunkM (chk (yOf c) i)) (dst := chunkM (chk (yOf c) i)) (c' := (dst c i : Thread nD τ)) (sS := .dma (sndS i)) (sem := .dma (rcvS (chk (yOf c) i)))
    (q := shareOf i) (fs := gath m ρ c) (r₁ := 0) (r₂ := 0) (d₁ := 0) (d₂ := 0) (fd := fd)
    (hsc := hsc) (hsrc := hsrc) (hdst := hdst) (hsem := hsem) (k := k) (Q := Q) (defs := defs₀ (F := F))
    (duty_snd m ρ c i hu) (duty_rcv m ρ c i hu)
    () () N hN k1 k2 O rfl (W := W) h1 h2 hr) $$ [Hsrc Hdst HO HtS HtR]
  · isplitr; · iexact HIs
    isplitr; · iexact HIr
    isplitl [Hsrc]; · unfold sndPay chunkPts; iexact Hsrc
    isplitl [Hdst]; · unfold chunkPts; iexact Hdst
    isplitl [HO]; · iexact HO
    isplitl [HtS]; · iexact HtS
    isplitr; · iexact HrS
    isplitl [HtR]; · iexact HtR
    iexact HrR
  iintro ⟨Hc, HO⟩
  iapply Hk
  isplitl [HO]; · iexists W; iexact HO
  iexact Hc

/-- Slot `i` after its transfer was issued: its end may be waited for; where the slot is not used, the share is still here. -/
def inFlight (i : Fin 5) : sProp 𝕄 := if uses (yOf c) i = true then sndCred c i else guard (decide (i ≠ 4)) (sndPay m ρ c i)
/-- Slot `i` at the end: the share back. -/
def sndBack (i : Fin 5) : sProp 𝕄 := guard (decide (i ≠ 4) || uses (yOf c) i) (sndPay m ρ c i)

/-- The transfer of a device's own chunk in slot `i`. -/
theorem send_step (i : Fin 5) (hi : i ≠ 4) {C : Prop} [Decidable C] (hC : C ↔ uses (yOf c) i = true)
    {M : C → Memref sig .tc .vmem S256x256 .bf16} (hM : ∀ h, M h = chunkM (chk (yOf c) i))
    {n : C → ℕ} {hn : ∀ h, n h < nD} (hdev : uses (yOf c) i = true → ∀ h, n h = (dst c i).val)
    {s : DmaSem sig} {s' : C → DmaSem sig} (hs : s = sndS i) (hs' : ∀ h, s' h = rcvS (chk (yOf c) i)) (O : CellTallies nD τ sig Unit)
    {hsc : ∀ h, (M h : Memref sig ((⟨n h, hn h⟩ : Dev nD) : Thread nD τ).2.kind .vmem S256x256 .bf16).view.ref.isScScratch = false}
    {hsrc : ∀ h, (M h).view.WordExact} {hdst : ∀ h, (M h).view.WordExact}
    {hsem : ∀ h, DmaTarget.Typed .vmem (.dma (s' h)) (.remote ((⟨n h, hn h⟩ : Dev nD) : Thread nD τ) (M h : Memref sig ((⟨n h, hn h⟩ : Dev nD) : Thread nD τ).2.kind .vmem S256x256 .bf16) (.dma s) (hsc h))}
    {α : Type} {Q : α → sProp 𝕄} {k : Prog (TpuEff nD τ sig (Elt F) Λ₀ .tc) α} :
    iprop(recs m ρ K ∗ owing c (O + oSnd c i) ∗ sndPay m ρ c i ∗ guard (uses (yOf c) i) (room c i) ∗ guard (uses (yOf c) i) (sndToks c i))
      ⊢ iprop(((owing c O ∗ inFlight m ρ c i) -∗ wpD c k Q)
          -∗ wpD c (dite C (fun h => Prog.lift (.enqueueDma (M h) (.remote ((⟨n h, hn h⟩ : Dev nD) : Thread nD τ) (M h) (.dma s) (hsc h)) (.dma (s' h)) (hsrc h) (hdst h) (hsem h)) >>= fun _ => k)
              (fun _ => k)) Q) := by
  unfold oSnd inFlight
  by_cases h : C
  · have hu := hC.mp h
    rw [dif_pos h, guard_pos hu, guard_pos hu, if_pos hu, if_pos hu]
    simp only [Prog.lift, Prog.bind_op, Prog.bind_ret]
    exact send_core m ρ K c i hu (hM h) (n := ⟨n h, hn h⟩) (Fin.ext (hdev hu h)) hs (hs' h) O (k := fun _ => k)
  · have hu : ¬ uses (yOf c) i = true := fun h' => h (hC.mpr h')
    rw [dif_neg h, guard_neg hu, guard_neg hu, if_neg hu, if_neg hu, add_zero, guard_pos (decide_eq_true hi)]
    iintro ⟨-, HO, Hs, -, -⟩ Hk
    iapply Hk
    isplitl [HO]; · iexact HO
    iexact Hs

/-! ## A wait for a landing -/

/-- What the wait for chunk `k` needs and what it gives. -/
def rcvNeeds (k : Fin 4) : sProp 𝕄 := iprop(cred (tallyAt (kcell (c, kRcv k)) () N) ∗ atPos ER (kcell (c, kRcv k)) 0 ∅ 0)
def rcvGot (k : Fin 4) : sProp 𝕄 := iprop(rcvPay m ρ c k ∗ semVal (kcell (c, kRcv k)) 0)

theorem rcv_core (kk : Fin 4) (hk : kk ≠ yOf c) {M M' : Memref sig .tc .vmem S256x256 .bf16} (hM : M' = chunkM kk)
    {s : DmaSem sig} (hs : s = rcvS kk) {O : CellTallies nD τ sig Unit} (hO : Above 2 O) (hl : viaHop (yOf c) kk = true → O = 0)
    {hsrc : M.view.WordExact} {hdst : M'.view.WordExact}
    {α : Type} {Q : α → sProp 𝕄} {k : PUnit → Prog (TpuEff nD τ sig (Elt F) Λ₀ .tc) α} :
    iprop(recs m ρ K ∗ levAts L lv ∗ owing c O ∗ rcvNeeds c kk)
      ⊢ iprop(((owing c O ∗ rcvGot m ρ c kk) -∗ wpD c (k ⟨⟩) Q) -∗ wpD c (.op (.waitDma2 s M M' hsrc hdst) k) Q) := by
  subst hM; subst hs
  unfold owing rcvNeeds rcvGot wpD
  have hx : 0 + (chunkM kk).view.dmaCredit = (gRd (F := F) m ρ).expect ((c : Thread nD τ), .dma (rcvS kk)) 0 := by
    rw [Nat.zero_add]; exact (expect_rcv m ρ c kk hk).symm
  have hw : (levAts L lv : sProp 𝕄) ⊢ MayWait (c : Thread nD τ) (.dma (rcvS kk)) () O := by
    by_cases hv : viaHop (yOf c) kk = true
    · rw [hl hv, MayWait_zero]; iintro -; iempintro
    · refine mayWait_above c (.dma (rcvS kk)) hO ?_
      rw [show lv ((c : Thread nD τ), .dma (rcvS kk)) () = lvK c (some (kRcv kk)) from lv_kcell c (kRcv kk) ()]
      show (if _ then 3 else 2) ≤ 2
      rw [if_neg hv]
  iintro ⟨#Hrecs, #Hlev, ⟨%W, HO⟩, Hc, Hat⟩ Hk
  ihave Hrec := (recs_at m ρ K (c, kRcv kk)) $$ Hrecs
  icases Hrec with ⟨#HI, -⟩
  iapply (Rounds.wp_wait_rest_token 𝒱₀ ER (gRd m ρ) (c : Thread nD τ) none (κ := K (c, kRcv kk))
    (wpE_waitDma2_eq 𝒱₀ (c : Thread nD τ) none Set.univ) (Set.mem_univ _) () (O := O) (W := W) (R := 0) (m := 0) (T := ∅)
    hx) $$ [Hc HO Hat]
  · isplitr; · iexact HI
    isplitl [Hc]; · iexact Hc
    isplitl [HO]; · iexact HO
    isplitr; · iapply hw; iexact Hlev
    iexact Hat
  iintro ⟨HO, Hat, -, Hpay⟩
  ihave Hp := (Entails.of_eq (rest_rcv m ρ c kk hk)) $$ Hpay
  imod (Rounds.cell_close ER (gRd m ρ) (Set.mem_univ (K (c, kRcv kk))) (fun h => h) (R := 0 + 1) (duties_later m ρ (kcell (c, kRcv kk)))) $$ [Hat] with Hz
  · isplitr; · iexact HI
    iexact Hat
  iapply Hk
  isplitl [HO]; · iexists _; iexact HO
  isplitl [Hp]; · iexact Hp
  iexact Hz

theorem direct_ne : ∀ y k : Fin 4, direct y k = true → k ≠ y := by decide +kernel

/-- One of the four waits at the end. -/
theorem rcv_step (kk : Fin 4) {C : Prop} [Decidable C] (hC : C ↔ direct (yOf c) kk = true)
    {M M' : C → Memref sig .tc .vmem S256x256 .bf16} (hM : ∀ h, M' h = chunkM kk) {s : C → DmaSem sig} (hs : ∀ h, s h = rcvS kk)
    {hsrc : ∀ h, (M h).view.WordExact} {hdst : ∀ h, (M' h).view.WordExact}
    {α : Type} {Q : α → sProp 𝕄} {k : Prog (TpuEff nD τ sig (Elt F) Λ₀ .tc) α} :
    iprop(recs m ρ K ∗ levAts L lv ∗ owing c 0 ∗ guard (direct (yOf c) kk) (rcvNeeds c kk))
      ⊢ iprop(((owing c 0 ∗ guard (direct (yOf c) kk) (rcvGot m ρ c kk)) -∗ wpD c k Q)
          -∗ wpD c (dite C (fun h => Prog.lift (.waitDma2 (s h) (M h) (M' h) (hsrc h) (hdst h)) >>= fun _ => k) (fun _ => k)) Q) := by
  by_cases h : C
  · have hu := hC.mp h
    rw [dif_pos h, guard_pos hu, guard_pos hu]
    simp only [Prog.lift, Prog.bind_op, Prog.bind_ret]
    exact rcv_core m ρ K c kk (direct_ne _ _ hu) (hM h) (hs h) (above_zero 2) (fun _ => rfl) (k := fun _ => k)
  · have hu : ¬ direct (yOf c) kk = true := fun h' => h (hC.mpr h')
    rw [dif_neg h, guard_neg hu, guard_neg hu]
    iintro ⟨-, -, HO, -⟩ Hk
    iapply Hk
    isplitl [HO]; · iexact HO
    iempintro

/-! ## The forwarding hop -/

theorem hop_ne : ∀ y : Fin 4, uses y 4 = true → chk y 4 ≠ y ∧ ¬ viaHop y (chk y 4) = true := by decide +kernel

theorem hop_step {C : Prop} [Decidable C] (hC : C ↔ uses (yOf c) 4 = true)
    {M₁ M : C → Memref sig .tc .vmem S256x256 .bf16} (hM : ∀ h, M h = chunkM (chk (yOf c) 4))
    {n : C → ℕ} {hn : ∀ h, n h < nD} (hdev : uses (yOf c) 4 = true → ∀ h, n h = (dst c 4).val)
    {s : DmaSem sig} {s' : C → DmaSem sig} (hs : s = sndS 4) (hs' : ∀ h, s' h = rcvS (chk (yOf c) 4))
    {hsrc₁ : ∀ h, (M₁ h).view.WordExact} {hdst₁ : ∀ h, (M h).view.WordExact}
    {hsc : ∀ h, (M h : Memref sig ((⟨n h, hn h⟩ : Dev nD) : Thread nD τ).2.kind .vmem S256x256 .bf16).view.ref.isScScratch = false}
    {hsrc : ∀ h, (M h).view.WordExact} {hdst : ∀ h, (M h).view.WordExact}
    {hsem : ∀ h, DmaTarget.Typed .vmem (.dma (s' h)) (.remote ((⟨n h, hn h⟩ : Dev nD) : Thread nD τ) (M h : Memref sig ((⟨n h, hn h⟩ : Dev nD) : Thread nD τ).2.kind .vmem S256x256 .bf16) (.dma s) (hsc h))}
    {α : Type} {Q : α → sProp 𝕄} {k : Prog (TpuEff nD τ sig (Elt F) Λ₀ .tc) α} :
    iprop(recs m ρ K ∗ levAts L lv ∗ owing c (0 + oSnd c 4) ∗ guard (uses (yOf c) 4) (rcvNeeds c (chk (yOf c) 4))
        ∗ guard (uses (yOf c) 4) (room c 4) ∗ guard (uses (yOf c) 4) (sndToks c 4))
      ⊢ iprop(((owing c 0 ∗ inFlight m ρ c 4 ∗ guard (uses (yOf c) 4) (semVal (kcell (c, kRcv (chk (yOf c) 4))) 0)) -∗ wpD c k Q)
          -∗ wpD c (dite C (fun h => Prog.lift (.waitDma2 (s' h) (M₁ h) (M h) (hsrc₁ h) (hdst₁ h)) >>= fun _ =>
                Prog.lift (.enqueueDma (M h) (.remote ((⟨n h, hn h⟩ : Dev nD) : Thread nD τ) (M h) (.dma s) (hsc h)) (.dma (s' h)) (hsrc h) (hdst h) (hsem h)) >>= fun _ => k)
              (fun _ => k)) Q) := by
  by_cases h : C
  · have hu := hC.mp h
    have hh := hop_ne _ hu
    rw [dif_pos h, guard_pos hu, guard_pos hu, guard_pos hu, guard_pos hu]
    simp only [Prog.lift, Prog.bind_op, Prog.bind_ret]
    iintro ⟨#Hrecs, #Hlev, HO, Hn, Hr, Ht⟩ Hk
    iapply (rcv_core m ρ K c (chk (yOf c) 4) hh.1 (hM h) (hs' h) (O := 0 + oSnd c 4)
      (above_add (above_zero 2) (above_hop c (by decide))) (fun hv => absurd hv hh.2)) $$ [HO Hn]
    · isplitr; · iexact Hrecs
      isplitr; · iexact Hlev
      isplitl [HO]; · iexact HO
      iexact Hn
    unfold rcvGot rcvPay
    iintro ⟨HO, Hp, Hz⟩
    unfold inFlight oSnd
    rw [if_pos hu, if_pos hu]
    iapply (send_core m ρ K c 4 hu (hM h) (n := ⟨n h, hn h⟩) (Fin.ext (hdev hu h)) hs (hs' h) 0) $$ [HO Hp Hr Ht]
    · isplitr; · iexact Hrecs
      isplitl [HO]; · iexact HO
      isplitl [Hp]; · unfold sndPay; iexact Hp
      isplitl [Hr]; · iexact Hr
      iexact Ht
    iintro ⟨HO, Hc⟩
    iapply Hk
    isplitl [HO]; · iexact HO
    isplitl [Hc]; · iexact Hc
    iexact Hz
  · have hu : ¬ uses (yOf c) 4 = true := fun h' => h (hC.mpr h')
    unfold inFlight oSnd
    rw [dif_neg h, guard_neg hu, guard_neg hu, guard_neg hu, guard_neg hu, if_neg hu, if_neg hu, add_zero, guard_neg (by decide)]
    iintro ⟨-, -, HO, -, -, -⟩ Hk
    iapply Hk
    isplitl [HO]; · iexact HO
    isplitl []; · iempintro
    iempintro

/-! ## The wait for the end of slot `i`'s transfer -/

theorem sndwait_core (i : Fin 5) (hu : uses (yOf c) i = true) {M M' : Memref sig .tc .vmem S256x256 .bf16} (hM : M' = chunkM (chk (yOf c) i))
    {s : DmaSem sig} (hs : s = sndS i) {hsrc : M.view.WordExact} {hdst : M'.view.WordExact}
    {α : Type} {Q : α → sProp 𝕄} {k : PUnit → Prog (TpuEff nD τ sig (Elt F) Λ₀ .tc) α} :
    iprop(recs m ρ K ∗ owing c 0 ∗ sndCred c i ∗ atPos ER (kcell (c, kSnd i)) 0 ∅ 0)
      ⊢ iprop(((owing c 0 ∗ sndPay m ρ c i ∗ semVal (kcell (c, kSnd i)) 0) -∗ wpD c (k ⟨⟩) Q)
          -∗ wpD c (.op (.waitDma2 s M M' hsrc hdst) k) Q) := by
  subst hM; subst hs
  unfold owing sndCred wpD
  have hx : 0 + (chunkM (chk (yOf c) i)).view.dmaCredit = (gRd (F := F) m ρ).expect ((c : Thread nD τ), .dma (sndS i)) 0 := by
    rw [Nat.zero_add]; exact (expect_snd m ρ c i hu).symm
  iintro ⟨#Hrecs, ⟨%W, HO⟩, Hc, Hat⟩ Hk
  ihave Hrec := (recs_at m ρ K (c, kSnd i)) $$ Hrecs
  icases Hrec with ⟨#HI, -⟩
  iapply (Rounds.wp_wait_rest_token 𝒱₀ ER (gRd m ρ) (c : Thread nD τ) none (κ := K (c, kSnd i))
    (wpE_waitDma2_eq 𝒱₀ (c : Thread nD τ) none Set.univ) (Set.mem_univ _) () (O := 0) (W := W) (R := 0) (m := 0) (T := ∅)
    hx) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_snd m ρ c i hu)) $$ Hpay
  imod (Rounds.cell_close ER (gRd m ρ) (Set.mem_univ (K (c, kSnd i))) (fun h => h) (R := 0 + 1) (duties_later m ρ (kcell (c, kSnd i)))) $$ [Hat] with Hz
  · isplitr; · iexact HI
    iexact Hat
  iapply Hk
  isplitl [HO]; · iexists _; iexact HO
  isplitl [Hp]; · iexact Hp
  iexact Hz

theorem sndwait_step (i : Fin 5) {C : Prop} [Decidable C] (hC : C ↔ uses (yOf c) i = true)
    {M M' : C → Memref sig .tc .vmem S256x256 .bf16} (hM : ∀ h, M' h = chunkM (chk (yOf c) i)) {s : DmaSem sig} (hs : s = sndS i)
    {hsrc : ∀ h, (M h).view.WordExact} {hdst : ∀ h, (M' h).view.WordExact}
    {α : Type} {Q : α → sProp 𝕄} {k : Prog (TpuEff nD τ sig (Elt F) Λ₀ .tc) α} :
    iprop(recs m ρ K ∗ owing c 0 ∗ inFlight m ρ c i ∗ atPos ER (kcell (c, kSnd i)) 0 ∅ 0)
      ⊢ iprop(((owing c 0 ∗ sndBack m ρ c i ∗ semVal (kcell (c, kSnd i)) 0) -∗ wpD c k Q)
          -∗ wpD c (dite C (fun h => Prog.lift (.waitDma2 s (M h) (M' h) (hsrc h) (hdst h)) >>= fun _ => k) (fun _ => k)) Q) := by
  subst hs
  unfold inFlight sndBack
  by_cases h : C
  · have hu := hC.mp h
    rw [dif_pos h, if_pos hu, guard_pos (by rw [hu, Bool.or_true])]
    simp only [Prog.lift, Prog.bind_op, Prog.bind_ret]
    exact sndwait_core m ρ K c i hu (hM h) rfl (k := fun _ => k)
  · have hu : ¬ uses (yOf c) i = true := fun h' => h (hC.mpr h')
    rw [dif_neg h, if_neg hu, (Bool.not_eq_true _).mp hu, Bool.or_false]
    unfold wpD
    iintro ⟨#Hrecs, HO, Hs, Hat⟩ Hk
    ihave Hrec := (recs_at m ρ K (c, kSnd i)) $$ Hrecs
    icases Hrec with ⟨#HI, -⟩
    imod (Rounds.cell_close ER (gRd m ρ) (Set.mem_univ (K (c, kSnd i))) (fun h => h) (R := 0) (duties_unused m ρ c i hu)) $$ [Hat] with Hz
    · isplitr; · iexact HI
      iexact Hat
    iapply Hk
    isplitl [HO]; · iexact HO
    isplitl [Hs]; · iexact Hs
    iexact Hz

/-- The receive cell of a device's own chunk is never used: it closes. -/
theorem own_close : iprop(recs m ρ K ∗ atPos ER (kcell (c, kRcv (yOf c))) 0 ∅ 0) ⊢ (iprop(|={Set.univ}=> semVal (kcell (c, kRcv (yOf c))) 0) : sProp 𝕄) := by
  iintro ⟨#Hrecs, Hat⟩
  ihave Hrec := (recs_at m ρ K (c, kRcv (yOf c))) $$ Hrecs
  icases Hrec with ⟨#HI, -⟩
  iapply (Rounds.cell_close ER (gRd m ρ) (Set.mem_univ (K (c, kRcv (yOf c)))) (fun h => h) (R := 0) (duties_own m ρ c))
  isplitr; · iexact HI
  iexact Hat

end Cert.Gather

end
-- ==== Proof.Split.lean ====
/-
  Split: how what a device holds is divided among the statements of its body — its four chunks into its own and those it
  lends to its neighbours, what the barrier brings into the rooms of the five slots, and the four chunks, at the end, by
  the waits that brought them.
-/
module

public import proofs.«01_k».proof.Proof.Steps

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

/-! ## At a place of the line, over any assertions -/

section Tables

theorem places : ∀ y : Fin 4, y = 0 ∨ y = 1 ∨ y = 2 ∨ y = 3 := by decide

variable {M : Type} [RA.URA M]

theorem sep_nest (P Q R : sProp M) : iprop((P ∗ Q) ∗ R) = iprop(P ∗ Q ∗ R) := equiv_iff.mp ⟨BI.sep_assoc, BI.sep_assoc'⟩
theorem sep_nil (P : sProp M) : iprop(P ∗ emp) = P := equiv_iff.mp BI.sep_emp
theorem nil_sep (P : sProp M) : iprop(emp ∗ P) = P := equiv_iff.mp BI.emp_sep
theorem sep_swap (P Q : sProp M) : iprop(P ∗ Q) = iprop(Q ∗ P) := equiv_iff.mp ⟨BI.sep_comm, BI.sep_comm⟩
theorem sep_swap_left (P Q R : sProp M) : iprop(P ∗ Q ∗ R) = iprop(Q ∗ P ∗ R) := by
  rw [← sep_nest, sep_swap P Q, sep_nest]

/-- Four chunks are those of the four waits at the end, the one to pass on, and the device's own. -/
theorem split_chunks (P : Fin 4 → sProp M) (y : Fin 4) :
    iprop(P 0 ∗ P 1 ∗ P 2 ∗ P 3)
      = iprop(guard (direct y 0) (P 0) ∗ guard (direct y 1) (P 1) ∗ guard (direct y 2) (P 2) ∗ guard (direct y 3) (P 3)
          ∗ guard (uses y 4) (P (chk y 4)) ∗ P y) := by
  rcases places y with rfl | rfl | rfl | rfl <;> simp [guard, direct, uses, chk, sep_nil, nil_sep, sep_nest, sep_swap, sep_swap_left]

/-- What the barrier brings, by the slots it is used in. -/
theorem split_rooms (A : Fin 5 → sProp M) (B : sProp M) (y : Fin 4) :
    iprop(guard (uses y 0) iprop(A 0 ∗ guard (carries y 0) B) ∗ guard (uses y 1) iprop(A 1 ∗ guard (carries y 1) B)
        ∗ guard (uses y 2) iprop(A 2 ∗ guard (carries y 2) B) ∗ guard (uses y 3) iprop(A 3 ∗ guard (carries y 3) B) ∗ emp)
      = iprop(guard (uses y 0) (A 0) ∗ guard (uses y 1) (A 1) ∗ guard (uses y 2) (A 2) ∗ guard (uses y 3) (A 3) ∗ guard (uses y 4) B) := by
  rcases places y with rfl | rfl | rfl | rfl <;> simp [guard, uses, carries, sep_nil, nil_sep, sep_nest, sep_swap, sep_swap_left]

/-- What a device lends to its neighbour in slot `i`, its chunks being `A`. -/
def lent (A : Fin 4 → sProp M) (y : Fin 4) (i : Fin 5) : sProp M :=
  guard (uses y i) iprop(A (tgt y i) ∗ guard (carries (tgt y i) (rev i)) (A (chk (tgt y i) 4)))

/-- Four chunks are the device's own and what it lends. -/
theorem split_lent (A : Fin 4 → sProp M) (y : Fin 4) :
    iprop(A 0 ∗ A 1 ∗ A 2 ∗ A 3) = iprop(A y ∗ lent A y 0 ∗ lent A y 1 ∗ lent A y 2 ∗ lent A y 3) := by
  rcases places y with rfl | rfl | rfl | rfl <;> simp [lent, guard, uses, carries, tgt, rev, chk, sep_nil, nil_sep, sep_nest, sep_swap, sep_swap_left] <;> exact sep_swap_left _ _ _

end Tables

variable {F : FTy → Type} [FloatOps F]

local notation "𝕄" => MT nD τ sig Unit (Elt F) ℕ UU ℕ

variable (m : (ℓ : Loc nD τ sig) → Buf (Elt F) ℓ) (ρ : Dev nD → PrngReg) (c : Dev nD)

theorem chk_own (y : Fin 4) (i : Fin 5) (hi : i ≠ 4) : chk y i = y := if_neg hi

omit [FloatOps F] in
/-- What the barrier brought is the room of every slot in use. -/
theorem rooms_eq : iprop(barGot (F := F) c 0 ∗ barGot c 1 ∗ barGot c 2 ∗ barGot c 3 ∗ emp)
    = iprop(guard (uses (yOf c) 0) (room c 0) ∗ guard (uses (yOf c) 1) (room c 1) ∗ guard (uses (yOf c) 2) (room c 2)
        ∗ guard (uses (yOf c) 3) (room c 3) ∗ guard (uses (yOf c) 4) (room c 4)) := by
  have h (i : Fin 5) (hi : i ≠ 4) : barGot (F := F) c i = guard (uses (yOf c) i) iprop(room c i ∗ guard (carries (yOf c) i) (room c 4)) := by
    unfold barGot barPay room
    rw [chk_own _ i hi]
  rw [h 0 (by decide), h 1 (by decide), h 2 (by decide), h 3 (by decide)]
  exact split_rooms (room c) (room c 4) (yOf c)

theorem tgt_rev : ∀ (y : Fin 4) (i : Fin 5), i ≠ 4 → uses y i = true → tgt (tgt y i) (rev i) = y := by decide +kernel
theorem tgt_carried : ∀ (y : Fin 4) (i : Fin 5), i ≠ 4 → uses y i = true → carries (tgt y i) (rev i) = true → tgt (tgt y i) 4 = y := by decide +kernel

omit [FloatOps F] in
/-- What a device lends in slot `i` is what its signal there hands over. -/
theorem lent_pay (i : Fin 5) (hi : i ≠ 4) :
    lent (fun k => iprop(∃ f, chunkPts (F := F) c k fullShare f)) (yOf c) i = guard (uses (yOf c) i) (barPay (dst c i) (rev i)) := by
  unfold lent
  by_cases hu : uses (yOf c) i = true
  · rw [guard_pos hu, guard_pos hu]
    unfold barPay
    have hy : yOf (dst c i) = tgt (yOf c) i := yOf_onLine _ _
    have hd : dst (dst c i) (rev i) = c := by
      rw [dst, hy, tgt_rev _ i hi hu, dst, onLine_onLine, onLine_self]
    rw [hy, hd]
    by_cases hc : carries (tgt (yOf c) i) (rev i) = true
    · have h4 : dst (dst c i) 4 = c := by
        rw [dst, hy, tgt_carried _ i hi hu hc, dst, onLine_onLine, onLine_self]
      rw [guard_pos hc, guard_pos hc, h4]
    · rw [guard_neg hc, guard_neg hc]
  · rw [guard_neg hu, guard_neg hu]

end Cert.Gather

end
-- ==== Proof.Parts.lean ====
/-
  Parts: the consecutive parts of the kernel's body, each from what it needs to what it leaves, at a symbolic device.
-/
module

public import proofs.«01_k».proof.Proof.Split

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true
set_option maxRecDepth 16384

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kd → ℕ) (c : Dev nD)

/-- The words of a device's places on the two other axes. -/
def xWord : BitVec 32 := Scalar.remsi (Scalar.divsi (Dev.word c) 16#32) 2#32
def zWord : BitVec 32 := Scalar.remsi (Scalar.divsi (Dev.word c) 1#32) 4#32

/-- A device asking for its number goes on with it. -/
theorem deviceId_step {α : Type} {Q : α → sProp 𝕄} {f : Dev nD → Prog (TpuEff nD τ sig (Elt F) Λ₀ .tc) α} :
    wpD c (f c) Q ⊢ wpD c (Prog.lift .deviceId >>= f) Q := by
  unfold wpD
  simp only [Prog.lift, Prog.bind_op, Prog.bind_ret, wp_deviceId]
  exact Entails.refl _

/-- An operation followed by the rest is the operation with the rest as its continuation. -/
theorem lift_step {α β : Type} {Q : α → sProp 𝕄} {e : TpuEff nD τ sig (Elt F) Λ₀ .tc β} {f : β → Prog (TpuEff nD τ sig (Elt F) Λ₀ .tc) α} :
    wpD c (.op e f) Q ⊢ wpD c (Prog.lift e >>= f) Q := by
  simp only [Prog.lift, Prog.bind_op, Prog.bind_ret]
  exact Entails.refl _

/-- A finished program leaves its result. -/
theorem pure_step {α : Type} {Q : α → sProp 𝕄} (a : α) : Q a ⊢ wpD c (pure a : Prog (TpuEff nD τ sig (Elt F) Λ₀ .tc) α) Q := by
  unfold wpD; rw [Prog.pure_eq_ret]; exact le_wp_ret _ _ _ _ _

theorem part1_spec {Q : _ → sProp 𝕄} :
    iprop(recs m ρ K ∗ owing c (O₀ c) ∗ sigNeeds c 0 ∗ sigNeeds c 1 ∗ sigNeeds c 2)
      ⊢ iprop((owing c (oSends c + oSig c 3) -∗ Q ⟨c, xWord c, yWord c, zWord c, SemArray.scalar (sig.barrier 0 rfl), Scalar.addi (yWord c) 2#32⟩)
          -∗ wpD c (k0_part1 (F := F) xM (Memref.isWhole_whole _) oM (Memref.isWhole_whole _) cc0_scratch0 cc0_scratch1) Q) := by
  rw [k0_part1_eq_skeleton]; unfold k0_part1_skel
  iintro ⟨#Hrecs, HO, H0, H1, H2⟩ Hk
  unfold O₀ xWord yWord zWord
  iapply (deviceId_step c)
  iapply (sig_step m ρ K c 0 (by decide) (cond1_iff c) (fun h _ => dev1_val c h) rfl) $$ [HO H0]
  · isplitr; · iexact Hrecs
    isplitl [HO]; · iexact HO
    iexact H0
  iintro HO
  iapply (sig_step m ρ K c 1 (by decide) (cond2_iff c) (fun h _ => dev2_val c h) rfl) $$ [HO H1]
  · isplitr; · iexact Hrecs
    isplitl [HO]; · iexact HO
    iexact H1
  iintro HO
  iapply (sig_step m ρ K c 2 (by decide) (cond3_iff c) (fun h _ => dev3_val c h) rfl) $$ [HO H2]
  · isplitr; · iexact Hrecs
    isplitl [HO]; · iexact HO
    iexact H2
  iintro HO
  iapply (pure_step c)
  iapply Hk; iexact HO

/-! ## The device's own block -/

/-- The staged input block, read whole. -/
theorem load_x_step {hz : ∀ a, (![0, 0] : Fin 2 → Nat) a + S256x256.size a ≤ S256x256.size a}
    {hl : (xM : Memref sig .tc .vmem S256x256 .bf16).view.LoadsAt (Rect.unit (s := S256x256) ![0, 0] S256x256.size hz).toLoadRect}
    {α : Type} {Q : α → sProp 𝕄} {f : Vec F S256x256 .bf16 → Prog (TpuEff nD τ sig (Elt F) Λ₀ .tc) α} (X : (cc0_stg0_0 : Ref sig .tc).ty.Contents (Elt F)) :
    (((c : Thread nD τ).loc cc0_stg0_0) ↦{fullShare} X : sProp 𝕄)
      ⊢ iprop(((((c : Thread nD τ).loc cc0_stg0_0) ↦{fullShare} X) -∗ wpD c (f X) Q)
          -∗ wpD c (Prog.lift (.load xM (Rect.unit (s := S256x256) ![0, 0] S256x256.size hz).toLoadRect hl) >>= f) Q) := by
  have h0 : (![0, 0] : Fin 2 → Nat) = fun _ => 0 := funext fun a => match a with | ⟨0, _⟩ => rfl | ⟨1, _⟩ => rfl
  have h1 : (xM : Memref sig .tc .vmem S256x256 .bf16).view.readAt (Elt F) (Rect.unit (s := S256x256) ![0, 0] S256x256.size hz).toLoadRect X = X :=
    Memref.readAt_unit_zero (Elt F) cc0_stg0_0 h0 _ X
  unfold wpD
  simp only [Prog.lift, Prog.bind_op, Prog.bind_ret]
  iintro Hx Hk
  iapply (wp_load 𝒱₀ (c : Thread nD τ) none Set.univ (m := xM) (Finset.subset_univ _)) $$ Hx
  iintro Hx
  rw [h1]
  iapply Hk; iexact Hx

/-- A read of the device's own chunk, whatever it holds. -/
theorem load_own_step {off : Fin 2 → Nat} (h : off = ![256 * (yOf c).val, 0]) {inb : ∀ a, off a + S256x256.size a ≤ S1024x256.size a}
    {hl : (oM : Memref sig .tc .vmem S1024x256 .bf16).view.LoadsAt (Rect.unit (s := S1024x256) off S256x256.size inb).toLoadRect}
    {α : Type} {Q : α → sProp 𝕄} {k : Prog (TpuEff nD τ sig (Elt F) Λ₀ .tc) α} :
    iprop(∃ f, chunkPts c (yOf c) fullShare f)
      ⊢ iprop(((∃ f, chunkPts c (yOf c) fullShare f) -∗ wpD c k Q)
          -∗ wpD c (Prog.lift (.load oM (Rect.unit (s := S1024x256) off S256x256.size inb).toLoadRect hl) >>= fun _ => k) Q) := by
  subst h
  unfold wpD chunkPts
  simp only [Prog.lift, Prog.bind_op, Prog.bind_ret]
  iintro ⟨%f, Ho⟩ Hk
  iapply (wp_load_rect 𝒱₀ (c : Thread nD τ) none Set.univ (m := oM) (r := chunkR (yOf c)) (S := (chunkM (yOf c)).view.set) (f := f)
    (Finset.Subset.refl _)) $$ Ho
  iintro Ho
  iapply Hk; iexists f; iexact Ho

/-- The store of the device's own block into its own chunk. -/
theorem store_own_step {off : Fin 2 → Nat} (h : off = ![256 * (yOf c).val, 0]) {inb : ∀ a, off a + S256x256.size a ≤ S1024x256.size a}
    {w : Vec F S256x256 .bf16} (hw : w = xstg m ρ c)
    {hx : (oM.access (Rect.unit (s := S1024x256) off S256x256.size inb) : View sig .tc _ _ _).Stores Finset.univ}
    {hm : (Finset.univ : Finset (Rect.unit (s := S1024x256) off S256x256.size inb).shape.Idx) = Finset.univ ∨ ∀ a, (Rect.unit (s := S1024x256) off S256x256.size inb).stride a = 1}
    {α : Type} {Q : α → sProp 𝕄} {k : Prog (TpuEff nD τ sig (Elt F) Λ₀ .tc) α} :
    iprop(∃ f, chunkPts c (yOf c) fullShare f)
      ⊢ iprop((chunkPts c (yOf c) fullShare (gath m ρ c) -∗ wpD c k Q)
          -∗ wpD c (Prog.lift (.store oM (Rect.unit (s := S1024x256) off S256x256.size inb) w Finset.univ hx hm) >>= fun _ => k) Q) := by
  subst h; subst hw
  iintro ⟨%f, Ho⟩ Hk
  ihave Hk' : iprop(chunkPts c (yOf c) fullShare ((chunkM (yOf c)).view.write (Elt F) f (xstg m ρ c) Finset.univ) -∗ wpD c k Q) $$ [Hk]
  · rw [stored_chunk]; iexact Hk
  unfold wpD chunkPts
  simp only [Prog.lift, Prog.bind_op, Prog.bind_ret]
  iapply (wp_store 𝒱₀ (c : Thread nD τ) none Set.univ (m := oM) (r := chunkR (yOf c)) (Mk := Finset.univ) (S := (chunkM (yOf c)).view.set) (f := f)
    (Finset.Subset.refl _)) $$ Ho
  iintro Ho
  iapply Hk'; iexact Ho

/-! ## The second part: the last signal, the barrier, the device's own block, the first transfer -/

theorem bar_done : ∀ y : Fin 4, (false || decide (partners y = 2) || decide (partners y = 3)) = true := by decide +kernel
theorem bar_open : ∀ y : Fin 4, decide (partners y = 3) = true → (false || decide (partners y = 2)) = false := by decide +kernel

/-- What is owed from the first transfer on, after the transfer of slot 0, 1, 2, 3. -/
def oFrom1 : CellTallies nD τ sig Unit := 0 + oSnd c 4 + oSnd c 3 + oSnd c 2 + oSnd c 1

omit [FloatOps F] in
/-- A share of the device's own chunk is what its slot's transfer takes. -/
theorem own_shares : chunkPts (F := F) c (yOf c) fullShare (gath m ρ c) ⊣⊢ iprop(sndPay m ρ c 0 ∗ sndPay m ρ c 1 ∗ sndPay m ρ c 2 ∗ sndPay m ρ c 3) := by
  unfold sndPay
  rw [chk_own _ 0 (by decide), chk_own _ 1 (by decide), chk_own _ 2 (by decide), chk_own _ 3 (by decide)]
  exact chunk_shares c (yOf c) _

/-- A device's input block where it is staged. -/
def xPts : sProp 𝕄 := (((c : Thread nD τ).loc cc0_stg0_0) ↦{fullShare} (xstg m ρ c))

theorem part2_spec {Q : _ → sProp 𝕄} (v2 v8 v28 : BitVec 32) :
    iprop(recs m ρ K ∗ levAts L lv ∗ owing c (oSends c + oSig c 3) ∗ sigNeeds c 3 ∗ barSt c false ∗ xPts m ρ c
        ∗ (∃ f, chunkPts c (yOf c) fullShare f) ∗ guard (uses (yOf c) 0) (sndToks c 0))
      ⊢ iprop((∀ v57 v60 z, (owing c (oFrom1 c) ∗ semVal (kcell (c, kBar)) 0 ∗ xPts m ρ c ∗ inFlight m ρ c 0
            ∗ sndPay m ρ c 1 ∗ sndPay m ρ c 2 ∗ sndPay m ρ c 3
            ∗ guard (uses (yOf c) 1) (room c 1) ∗ guard (uses (yOf c) 2) (room c 2) ∗ guard (uses (yOf c) 3) (room c 3)
            ∗ guard (uses (yOf c) 4) (room c 4)) -∗ Q ⟨v57, v60, z⟩)
          -∗ wpD c (k0_part2 (F := F) xM (Memref.isWhole_whole _) oM (Memref.isWhole_whole _) cc0_scratch0 cc0_scratch1 c v2 (yWord c) v8
              (SemArray.scalar (sig.barrier 0 rfl)) v28) Q) := by
  rw [k0_part2_eq_skeleton]; unfold k0_part2_skel
  iintro ⟨#Hrecs, #Hlev, HO, H3, Hb, Hx, Hown, Ht⟩ Hk
  iapply (sig_step m ρ K c 3 (by decide) (cond4_iff c) (fun h _ => dev4_val c h) rfl) $$ [HO H3]
  · isplitr; · iexact Hrecs
    isplitl [HO]; · iexact HO
    iexact H3
  iintro HO
  iapply (barwait_step m ρ K c false 2 (w := 2#32) (by decide) (two_iff c) (fun _ => rfl) rfl (above_oSends c (by decide))) $$ [HO Hb]
  · isplitr; · iexact Hrecs
    isplitr; · iexact Hlev
    isplitl [HO]; · iexact HO
    iexact Hb
  iintro ⟨HO, Hb⟩
  iapply (barwait_step m ρ K c (false || decide (partners (yOf c) = 2)) 3 (w := 3#32) (by decide) (three_iff c)
    (fun h => bar_open _ ((three_iff c).mp h)) rfl (above_oSends c (by decide))) $$ [HO Hb]
  · isplitr; · iexact Hrecs
    isplitr; · iexact Hlev
    isplitl [HO]; · iexact HO
    iexact Hb
  rw [bar_done]
  iintro ⟨HO, Hb⟩
  ihave Hb' := (Entails.of_eq (show barSt c true = _ from if_pos rfl)) $$ Hb
  icases Hb' with ⟨Hgot, Hz⟩
  ihave Hr := (Entails.of_eq (rooms_eq c)) $$ Hgot
  icases Hr with ⟨Hr0, Hr1, Hr2, Hr3, Hr4⟩
  unfold xPts
  iapply (load_x_step c (xstg m ρ c)) $$ Hx
  iintro Hx
  iapply (load_own_step c (k0_off1_eq c)) $$ Hown
  iintro Hown
  iapply (store_own_step m ρ c (k0_off1_eq c) (shapeCast_self _ _)) $$ Hown
  iintro Hown
  ihave Hs := (own_shares m ρ c).1 $$ Hown
  icases Hs with ⟨Hs0, Hs1, Hs2, Hs3⟩
  iapply (send_step m ρ K c 0 (by decide) (cond7_iff c) (fun _ => slice_chunk (yOf c) (k0_off3_eq c) _ _) (fun h _ => dev5_val c h)
    (snd_sem 0 _) (fun _ => rcv_sem' (yOf c) (k0_off2_eq c) _) (oFrom1 c)) $$ [HO Hs0 Hr0 Ht]
  · isplitr; · iexact Hrecs
    isplitl [HO]; · iexact HO
    isplitl [Hs0]; · iexact Hs0
    isplitl [Hr0]; · iexact Hr0
    iexact Ht
  iintro ⟨HO, Hf⟩
  iapply (pure_step c)
  iapply Hk
  isplitl [HO]; · iexact HO
  isplitl [Hz]; · iexact Hz
  isplitl [Hx]; · iexact Hx
  isplitl [Hf]; · iexact Hf
  isplitl [Hs1]; · iexact Hs1
  isplitl [Hs2]; · iexact Hs2
  isplitl [Hs3]; · iexact Hs3
  isplitl [Hr1]; · iexact Hr1
  isplitl [Hr2]; · iexact Hr2
  isplitl [Hr3]; · iexact Hr3
  iexact Hr4

/-! ## The third part: the three other transfers of the device's own chunk -/

theorem part3_spec {Q : _ → sProp 𝕄} (v2 v8 v60 z : BitVec 32) :
    iprop(recs m ρ K ∗ owing c (oFrom1 c) ∗ sndPay m ρ c 1 ∗ sndPay m ρ c 2 ∗ sndPay m ρ c 3
        ∗ guard (uses (yOf c) 1) (room c 1) ∗ guard (uses (yOf c) 2) (room c 2) ∗ guard (uses (yOf c) 3) (room c 3)
        ∗ guard (uses (yOf c) 1) (sndToks c 1) ∗ guard (uses (yOf c) 2) (sndToks c 2) ∗ guard (uses (yOf c) 3) (sndToks c 3))
      ⊢ iprop((∀ v67 v77 v87, (owing c (0 + oSnd c 4) ∗ inFlight m ρ c 1 ∗ inFlight m ρ c 2 ∗ inFlight m ρ c 3)
            -∗ Q ⟨v67, v77, v87, fWord c, Scalar.cmpi .eq (yWord c) 1#32⟩)
          -∗ wpD c (k0_part3 (F := F) xM (Memref.isWhole_whole _) oM (Memref.isWhole_whole _) cc0_scratch0 cc0_scratch1 c v2 (yWord c) v8 v60 z) Q) := by
  rw [k0_part3_eq_skeleton]; unfold k0_part3_skel oFrom1 fWord
  iintro ⟨#Hrecs, HO, Hs1, Hs2, Hs3, Hr1, Hr2, Hr3, Ht1, Ht2, Ht3⟩ Hk
  iapply (send_step m ρ K c 1 (by decide) (cond8_iff c) (fun _ => slice_chunk (yOf c) (k0_off5_eq c) _ _) (fun h _ => dev6_val c h)
    (snd_sem 1 _) (fun _ => rcv_sem' (yOf c) (k0_off4_eq c) _) (0 + oSnd c 4 + oSnd c 3 + oSnd c 2)) $$ [HO Hs1 Hr1 Ht1]
  · isplitr; · iexact Hrecs
    isplitl [HO]; · iexact HO
    isplitl [Hs1]; · iexact Hs1
    isplitl [Hr1]; · iexact Hr1
    iexact Ht1
  iintro ⟨HO, Hf1⟩
  iapply (send_step m ρ K c 2 (by decide) (cond9_iff c) (fun _ => slice_chunk (yOf c) (k0_off7_eq c) _ _) (fun h _ => dev7_val c h)
    (snd_sem 2 _) (fun _ => rcv_sem' (yOf c) (k0_off6_eq c) _) (0 + oSnd c 4 + oSnd c 3)) $$ [HO Hs2 Hr2 Ht2]
  · isplitr; · iexact Hrecs
    isplitl [HO]; · iexact HO
    isplitl [Hs2]; · iexact Hs2
    isplitl [Hr2]; · iexact Hr2
    iexact Ht2
  iintro ⟨HO, Hf2⟩
  iapply (send_step m ρ K c 3 (by decide) (cond10_iff c) (fun _ => slice_chunk (yOf c) (k0_off9_eq c) _ _) (fun h _ => dev8_val c h)
    (snd_sem 3 _) (fun _ => rcv_sem' (yOf c) (k0_off8_eq c) _) (0 + oSnd c 4)) $$ [HO Hs3 Hr3 Ht3]
  · isplitr; · iexact Hrecs
    isplitl [HO]; · iexact HO
    isplitl [Hs3]; · iexact Hs3
    isplitl [Hr3]; · iexact Hr3
    iexact Ht3
  iintro ⟨HO, Hf3⟩
  iapply (pure_step c)
  iapply Hk
  isplitl [HO]; · iexact HO
  isplitl [Hf1]; · iexact Hf1
  isplitl [Hf2]; · iexact Hf2
  iexact Hf3

/-! ## The fourth part: the forwarding hop and the waits for chunks 0, 1, 2 -/

theorem hop_off (c : Dev nD) : (![256 * (if (c.val / 4) % 4 = 1 then 3 else 0), 0] : Fin 2 → Nat) = ![256 * (chk (yOf c) 4).val, 0] := by
  rw [chk_val]
theorem hop_cell (c : Dev nD) : (![if (c.val / 4) % 4 = 1 then 3 else 0] : Fin 1 → Nat) = ![(chk (yOf c) 4).val] := by
  rw [chk_val]

theorem part4_spec {Q : _ → sProp 𝕄} (v2 v8 : BitVec 32) :
    iprop(recs m ρ K ∗ levAts L lv ∗ owing c (0 + oSnd c 4) ∗ guard (uses (yOf c) 4) (rcvNeeds c (chk (yOf c) 4))
        ∗ guard (uses (yOf c) 4) (room c 4) ∗ guard (uses (yOf c) 4) (sndToks c 4)
        ∗ guard (direct (yOf c) 0) (rcvNeeds c 0) ∗ guard (direct (yOf c) 1) (rcvNeeds c 1) ∗ guard (direct (yOf c) 2) (rcvNeeds c 2))
      ⊢ iprop(((owing c 0 ∗ inFlight m ρ c 4 ∗ guard (uses (yOf c) 4) (semVal (kcell (c, kRcv (chk (yOf c) 4))) 0)
            ∗ guard (direct (yOf c) 0) (rcvGot m ρ c 0) ∗ guard (direct (yOf c) 1) (rcvGot m ρ c 1) ∗ guard (direct (yOf c) 2) (rcvGot m ρ c 2))
            -∗ Q ⟨innerBit c, Scalar.cmpi .ne (yWord c) 3#32, 3#32⟩)
          -∗ wpD c (k0_part4 (F := F) xM (Memref.isWhole_whole _) oM (Memref.isWhole_whole _) cc0_scratch0 cc0_scratch1 c v2 (yWord c) v8
              (fWord c) (Scalar.cmpi .eq (yWord c) 1#32)) Q) := by
  rw [k0_part4_eq_skeleton]; unfold k0_part4_skel innerBit
  iintro ⟨#Hrecs, #Hlev, HO, Hn, Hr, Ht, Hn0, Hn1, Hn2⟩ Hk
  iapply (hop_step m ρ K c (cond11_iff c) (fun _ => slice_chunk (chk (yOf c) 4) ((k0_off11_eq c).trans (hop_off c)) _ _) (fun h _ => dev9_val c h)
    (snd_sem 4 _) (fun _ => rcv_sem' (chk (yOf c) 4) ((k0_off10_eq c).trans (hop_cell c)) _)) $$ [HO Hn Hr Ht]
  · isplitr; · iexact Hrecs
    isplitr; · iexact Hlev
    isplitl [HO]; · iexact HO
    isplitl [Hn]; · iexact Hn
    isplitl [Hr]; · iexact Hr
    iexact Ht
  iintro ⟨HO, Hf, Hz⟩
  iapply (rcv_step m ρ K c 0 (recv0_iff c) (fun _ => slice_chunk 0 rfl _ _) (fun _ => rcv_sem 0 _)) $$ [HO Hn0]
  · isplitr; · iexact Hrecs
    isplitr; · iexact Hlev
    isplitl [HO]; · iexact HO
    iexact Hn0
  iintro ⟨HO, Hg0⟩
  iapply (rcv_step m ρ K c 1 (recv1_iff c) (fun _ => slice_chunk 1 rfl _ _) (fun _ => rcv_sem 1 _)) $$ [HO Hn1]
  · isplitr; · iexact Hrecs
    isplitr; · iexact Hlev
    isplitl [HO]; · iexact HO
    iexact Hn1
  iintro ⟨HO, Hg1⟩
  iapply (rcv_step m ρ K c 2 (recv2_iff c) (fun _ => slice_chunk 2 rfl _ _) (fun _ => rcv_sem 2 _)) $$ [HO Hn2]
  · isplitr; · iexact Hrecs
    isplitr; · iexact Hlev
    isplitl [HO]; · iexact HO
    iexact Hn2
  iintro ⟨HO, Hg2⟩
  iapply (pure_step c)
  iapply Hk
  isplitl [HO]; · iexact HO
  isplitl [Hf]; · iexact Hf
  isplitl [Hz]; · iexact Hz
  isplitl [Hg0]; · iexact Hg0
  isplitl [Hg1]; · iexact Hg1
  iexact Hg2

end Cert.Gather

end
-- ==== Proof.Body.lean ====
/-
  Body: the whole body of a device, from its tokens, its positions and credits, its staged input block and its result
  buffer, to the gathered result in the buffer and every counter back at zero.
-/
module

public import proofs.«01_k».proof.Proof.Parts

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true
set_option maxRecDepth 16384

section Guard
variable {M : Type} [RA.URA M] {P Q : sProp M}

theorem guard_sep (b : Bool) : guard b iprop(P ∗ Q) = iprop(guard b P ∗ guard b Q) := by
  cases b
  · rw [guard_neg (by decide), guard_neg (by decide), guard_neg (by decide), sep_nil]
  · rw [guard_pos rfl, guard_pos rfl, guard_pos rfl]

theorem guard_under {b b' : Bool} (h : b = true → b' = true) : guard b (guard b' P) = guard b P := by
  by_cases hb : b = true
  · rw [guard_pos hb, guard_pos hb, guard_pos (h hb)]
  · rw [guard_neg hb, guard_neg hb]
end Guard

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kd → ℕ) (c : Dev nD)

/-- One program followed by another. -/
theorem bind_step {α β : Type} {Q : β → sProp 𝕄} {p : Prog (TpuEff nD τ sig (Elt F) Λ₀ .tc) α} {f : α → Prog (TpuEff nD τ sig (Elt F) Λ₀ .tc) β} :
    wpD c p (fun a => wpD c (f a) Q) ⊢ wpD c (p >>= f) Q := by
  unfold wpD
  exact (Entails.of_eq (wp_bind _ _ _ _ _ _).symm)

/-! ## What a device starts with -/

/-- The token of the duty its signal in slot `i` pays. -/
def sigTok (i : Fin 5) : sProp 𝕄 := guard (uses (yOf c) i) (dutyTok ER (kcell (dst c i, kBar)) 0 (rev i))
/-- Its position at the landing cell of chunk `k`, and the credit of the landing if that chunk is another device's. -/
def rcvStart (k : Fin 4) : sProp 𝕄 :=
  iprop(guard (decide (k ≠ yOf c)) (cred (tallyAt (kcell (c, kRcv k)) () N)) ∗ atPos ER (kcell (c, kRcv k)) 0 ∅ 0)
/-- Its position at the send cell of slot `i`. -/
def sndAt (i : Fin 5) : sProp 𝕄 := atPos ER (kcell (c, kSnd i)) 0 ∅ 0
/-- The tokens of slot `i`'s transfer. -/
def sndTok (i : Fin 5) : sProp 𝕄 := guard (uses (yOf c) i) (sndToks c i)

def tokens : sProp 𝕄 := iprop((sigTok c 0 ∗ sigTok c 1 ∗ sigTok c 2 ∗ sigTok c 3) ∗ (sndTok c 0 ∗ sndTok c 1 ∗ sndTok c 2 ∗ sndTok c 3 ∗ sndTok c 4))
def places0 : sProp 𝕄 := iprop(barSt c false ∗ (rcvStart c 0 ∗ rcvStart c 1 ∗ rcvStart c 2 ∗ rcvStart c 3) ∗ (sndAt c 0 ∗ sndAt c 1 ∗ sndAt c 2 ∗ sndAt c 3 ∗ sndAt c 4))
/-- All counters back at zero. -/
def zeros : sProp 𝕄 :=
  iprop(semVal (kcell (c, kBar)) 0
    ∗ (semVal (kcell (c, kRcv 0)) 0 ∗ semVal (kcell (c, kRcv 1)) 0 ∗ semVal (kcell (c, kRcv 2)) 0 ∗ semVal (kcell (c, kRcv 3)) 0)
    ∗ (semVal (kcell (c, kSnd 0)) 0 ∗ semVal (kcell (c, kSnd 1)) 0 ∗ semVal (kcell (c, kSnd 2)) 0 ∗ semVal (kcell (c, kSnd 3)) 0 ∗ semVal (kcell (c, kSnd 4)) 0))
/-- The result buffer, whole. -/
def outPts (f : (cc0_stg1_0 : Ref sig .tc).ty.Contents (Elt F)) : sProp 𝕄 := (((c : Thread nD τ).loc cc0_stg1_0) ↦{fullShare} f)

/-! ## Dividing it -/

omit [FloatOps F] in
/-- The buffer is the device's own chunk and what the four signals hand over. -/
theorem lend_out (f : (cc0_stg1_0 : Ref sig .tc).ty.Contents (Elt F)) :
    outPts c f ⊢ iprop((∃ f, chunkPts c (yOf c) fullShare f) ∗ guard (uses (yOf c) 0) (barPay (dst c 0) (rev 0)) ∗ guard (uses (yOf c) 1) (barPay (dst c 1) (rev 1))
      ∗ guard (uses (yOf c) 2) (barPay (dst c 2) (rev 2)) ∗ guard (uses (yOf c) 3) (barPay (dst c 3) (rev 3))) := by
  unfold outPts
  rw [whole_chunks, ← lent_pay c 0 (by decide), ← lent_pay c 1 (by decide), ← lent_pay c 2 (by decide), ← lent_pay c 3 (by decide)]
  refine BIBase.Entails.trans ?_ (Entails.of_eq (split_lent (fun k => iprop(∃ f, chunkPts (F := F) c k fullShare f)) (yOf c)))
  iintro ⟨H0, H1, H2, H3⟩
  isplitl [H0]; · iexists f; iexact H0
  isplitl [H1]; · iexists f; iexact H1
  isplitl [H2]; · iexists f; iexact H2
  iexists f; iexact H3

theorem direct_other : ∀ y k : Fin 4, direct y k = true → decide (k ≠ y) = true := by decide +kernel
theorem hop_other : ∀ y : Fin 4, uses y 4 = true → decide (chk y 4 ≠ y) = true := by decide +kernel

omit [FloatOps F] in
/-- The landings by the statements that wait for them. -/
theorem split_starts : iprop(rcvStart (F := F) c 0 ∗ rcvStart c 1 ∗ rcvStart c 2 ∗ rcvStart c 3)
    = iprop(guard (direct (yOf c) 0) (rcvNeeds c 0) ∗ guard (direct (yOf c) 1) (rcvNeeds c 1) ∗ guard (direct (yOf c) 2) (rcvNeeds c 2)
        ∗ guard (direct (yOf c) 3) (rcvNeeds c 3) ∗ guard (uses (yOf c) 4) (rcvNeeds c (chk (yOf c) 4)) ∗ atPos ER (kcell (c, kRcv (yOf c))) 0 ∅ 0) := by
  rw [split_chunks (rcvStart c) (yOf c)]
  have h (b : Bool) (k : Fin 4) (hb : b = true → decide (k ≠ yOf c) = true) : guard b (rcvStart (F := F) c k) = guard b (rcvNeeds c k) := by
    unfold rcvStart rcvNeeds
    rw [guard_sep, guard_sep, guard_under hb]
  have hy : rcvStart (F := F) c (yOf c) = atPos ER (kcell (c, kRcv (yOf c))) 0 ∅ 0 := by
    unfold rcvStart
    rw [guard_neg (by rw [decide_eq_true_eq]; exact fun h => h rfl), nil_sep]
  rw [h _ 0 (direct_other _ 0), h _ 1 (direct_other _ 1), h _ 2 (direct_other _ 2), h _ 3 (direct_other _ 3), h _ _ (hop_other _), hy]

omit [FloatOps F] in
/-- The chunks and the counters of the landings, put together again. -/
theorem join_landed :
    iprop((guard (direct (yOf c) 0) (rcvGot m ρ c 0) ∗ guard (direct (yOf c) 1) (rcvGot m ρ c 1) ∗ guard (direct (yOf c) 2) (rcvGot m ρ c 2)
        ∗ guard (direct (yOf c) 3) (rcvGot m ρ c 3))
        ∗ (guard (uses (yOf c) 4) (sndPay m ρ c 4) ∗ guard (uses (yOf c) 4) (semVal (kcell (c, kRcv (chk (yOf c) 4))) 0))
        ∗ chunkPts c (yOf c) fullShare (gath m ρ c) ∗ semVal (kcell (c, kRcv (yOf c))) 0)
      ⊢ iprop(outPts c (gath m ρ c) ∗ semVal (kcell (c, kRcv 0)) 0 ∗ semVal (kcell (c, kRcv 1)) 0 ∗ semVal (kcell (c, kRcv 2)) 0 ∗ semVal (kcell (c, kRcv 3)) 0) := by
  have e := split_chunks (rcvGot m ρ c) (yOf c)
  have e4 : guard (uses (yOf c) 4) (rcvGot m ρ c (chk (yOf c) 4))
      = iprop(guard (uses (yOf c) 4) (sndPay m ρ c 4) ∗ guard (uses (yOf c) 4) (semVal (kcell (c, kRcv (chk (yOf c) 4))) 0)) :=
    guard_sep (P := sndPay m ρ c 4) (Q := semVal (kcell (c, kRcv (chk (yOf c) 4))) 0) _
  rw [← e4]
  unfold outPts
  rw [whole_chunks]
  iintro ⟨⟨H0, H1, H2, H3⟩, H4, Hy, Hz⟩
  ihave H := (Entails.of_eq e.symm) $$ [H0 H1 H2 H3 H4 Hy Hz]
  · isplitl [H0]; · iexact H0
    isplitl [H1]; · iexact H1
    isplitl [H2]; · iexact H2
    isplitl [H3]; · iexact H3
    isplitl [H4]; · iexact H4
    unfold rcvGot rcvPay
    isplitl [Hy]; · iexact Hy
    iexact Hz
  unfold rcvGot rcvPay
  icases H with ⟨⟨H0, Z0⟩, ⟨H1, Z1⟩, ⟨H2, Z2⟩, ⟨H3, Z3⟩⟩
  isplitl [H0 H1 H2 H3]
  · isplitl [H0]; · iexact H0
    isplitl [H1]; · iexact H1
    isplitl [H2]; · iexact H2
    iexact H3
  isplitl [Z0]; · iexact Z0
  isplitl [Z1]; · iexact Z1
  isplitl [Z2]; · iexact Z2
  iexact Z3

/-! ## The body -/

theorem body_spec {Q : PUnit → sProp 𝕄} (f : (cc0_stg1_0 : Ref sig .tc).ty.Contents (Elt F)) :
    iprop(recs m ρ K ∗ levAts L lv ∗ owing c (O₀ c) ∗ tokens c ∗ places0 c ∗ xPts m ρ c ∗ outPts c f)
      ⊢ iprop(((owing c 0 ∗ zeros c ∗ xPts m ρ c ∗ outPts c (gath m ρ c)) -∗ Q ⟨⟩)
          -∗ wpD c (cc0_body (F := F) xM (Memref.isWhole_whole _) oM (Memref.isWhole_whole _) cc0_scratch0 cc0_scratch1) Q) := by
  rw [cc0_body_eq_skeleton]; unfold cc0_body_skel
  unfold tokens places0 zeros
  iintro ⟨#Hrecs, #Hlev, HO, ⟨⟨T0, T1, T2, T3⟩, S0, S1, S2, S3, S4⟩, ⟨Hb, Hr, A0, A1, A2, A3, A4⟩, Hx, Hout⟩ Hk
  unfold sndTok sndAt
  ihave Hl := (lend_out c f) $$ Hout
  icases Hl with ⟨Hown, L0, L1, L2, L3⟩
  ihave Hr := (Entails.of_eq (split_starts c)) $$ Hr
  icases Hr with ⟨N0, N1, N2, N3, N4, Ny⟩
  have hsig (i : Fin 5) : iprop(sigTok c i ∗ guard (uses (yOf c) i) (barPay (dst c i) (rev i))) ⊢ sigNeeds (F := F) c i :=
    Entails.of_eq (guard_sep _).symm
  iapply (bind_step c)
  iapply (part1_spec m ρ K c) $$ [HO T0 T1 T2 L0 L1 L2]
  · isplitr; · iexact Hrecs
    isplitl [HO]; · iexact HO
    isplitl [T0 L0]
    · iapply (hsig 0); isplitl [T0]; · iexact T0
      iexact L0
    isplitl [T1 L1]
    · iapply (hsig 1); isplitl [T1]; · iexact T1
      iexact L1
    iapply (hsig 2); isplitl [T2]; · iexact T2
    iexact L2
  iintro HO
  iapply (bind_step c)
  iapply (part2_spec m ρ K c _ _ _) $$ [HO T3 L3 Hb Hx Hown S0]
  · isplitr; · iexact Hrecs
    isplitr; · iexact Hlev
    isplitl [HO]; · iexact HO
    isplitl [T3 L3]
    · iapply (hsig 3); isplitl [T3]; · iexact T3
      iexact L3
    isplitl [Hb]; · iexact Hb
    isplitl [Hx]; · iexact Hx
    isplitl [Hown]; · iexact Hown
    iexact S0
  iintro %v57 %v60 %z ⟨HO, Zb, Hx, F0, P1, P2, P3, R1, R2, R3, R4⟩
  iapply (bind_step c)
  iapply (part3_spec m ρ K c _ _ _ _) $$ [HO P1 P2 P3 R1 R2 R3 S1 S2 S3]
  · isplitr; · iexact Hrecs
    isplitl [HO]; · iexact HO
    isplitl [P1]; · iexact P1
    isplitl [P2]; · iexact P2
    isplitl [P3]; · iexact P3
    isplitl [R1]; · iexact R1
    isplitl [R2]; · iexact R2
    isplitl [R3]; · iexact R3
    isplitl [S1]; · iexact S1
    isplitl [S2]; · iexact S2
    iexact S3
  iintro %v67 %v77 %v87 ⟨HO, F1, F2, F3⟩
  iapply (bind_step c)
  iapply (part4_spec m ρ K c _ _) $$ [HO N4 R4 S4 N0 N1 N2]
  · isplitr; · iexact Hrecs
    isplitr; · iexact Hlev
    isplitl [HO]; · iexact HO
    isplitl [N4]; · iexact N4
    isplitl [R4]; · iexact R4
    isplitl [S4]; · iexact S4
    isplitl [N0]; · iexact N0
    isplitl [N1]; · iexact N1
    iexact N2
  iintro ⟨HO, F4, Z4, G0, G1, G2⟩
  iapply (rcv_step m ρ K c 3 (recv3_iff c) (fun _ => slice_chunk 3 rfl _ _) (fun _ => rcv_sem 3 _)) $$ [HO N3]
  · isplitr; · iexact Hrecs
    isplitr; · iexact Hlev
    isplitl [HO]; · iexact HO
    iexact N3
  iintro ⟨HO, G3⟩
  iapply (sndwait_step m ρ K c 0 (cond16_iff c) (fun _ => slice_chunk (yOf c) (k0_off12_eq c) _ _) (snd_sem 0 _)) $$ [HO F0 A0]
  · isplitr; · iexact Hrecs
    isplitl [HO]; · iexact HO
    isplitl [F0]; · iexact F0
    iexact A0
  iintro ⟨HO, B0, Y0⟩
  iapply (sndwait_step m ρ K c 1 (cond17_iff c) (fun _ => slice_chunk (yOf c) (k0_off13_eq c) _ _) (snd_sem 1 _)) $$ [HO F1 A1]
  · isplitr; · iexact Hrecs
    isplitl [HO]; · iexact HO
    isplitl [F1]; · iexact F1
    iexact A1
  iintro ⟨HO, B1, Y1⟩
  iapply (sndwait_step m ρ K c 2 (cond18_iff c) (fun _ => slice_chunk (yOf c) (k0_off14_eq c) _ _) (snd_sem 2 _)) $$ [HO F2 A2]
  · isplitr; · iexact Hrecs
    isplitl [HO]; · iexact HO
    isplitl [F2]; · iexact F2
    iexact A2
  iintro ⟨HO, B2, Y2⟩
  iapply (sndwait_step m ρ K c 3 (cond19_iff c) (fun _ => slice_chunk (yOf c) (k0_off15_eq c) _ _) (snd_sem 3 _)) $$ [HO F3 A3]
  · isplitr; · iexact Hrecs
    isplitl [HO]; · iexact HO
    isplitl [F3]; · iexact F3
    iexact A3
  iintro ⟨HO, B3, Y3⟩
  iapply (sndwait_step m ρ K c 4 (cond20_iff c) (fun _ => slice_chunk (chk (yOf c) 4) ((k0_off16_eq c).trans (hop_off c)) _ _) (snd_sem 4 _)) $$ [HO F4 A4]
  · isplitr; · iexact Hrecs
    isplitl [HO]; · iexact HO
    isplitl [F4]; · iexact F4
    iexact A4
  iintro ⟨HO, B4, Y4⟩
  have back (i : Fin 5) (hi : i ≠ 4) : sndBack m ρ c i = sndPay m ρ c i := by
    unfold sndBack; rw [decide_eq_true hi, Bool.true_or, guard_pos rfl]
  ihave Hy := (own_shares m ρ c).2 $$ [B0 B1 B2 B3]
  · isplitl [B0]; · iapply (Entails.of_eq (back 0 (by decide))); iexact B0
    isplitl [B1]; · iapply (Entails.of_eq (back 1 (by decide))); iexact B1
    isplitl [B2]; · iapply (Entails.of_eq (back 2 (by decide))); iexact B2
    iapply (Entails.of_eq (back 3 (by decide))); iexact B3
  unfold wpD
  imod (own_close m ρ K c) $$ [Ny] with Zy
  · isplitr; · iexact Hrecs
    iexact Ny
  ihave Hj := (join_landed m ρ c) $$ [G0 G1 G2 G3 B4 Z4 Hy Zy]
  · isplitl [G0 G1 G2 G3]
    · isplitl [G0]; · iexact G0
      isplitl [G1]; · iexact G1
      isplitl [G2]; · iexact G2
      iexact G3
    isplitl [B4 Z4]
    · isplitl [B4]; · unfold sndBack; iexact B4
      iexact Z4
    isplitl [Hy]; · iexact Hy
    iexact Zy
  icases Hj with ⟨Hout, X0, X1, X2, X3⟩
  rw [Prog.pure_eq_ret]
  iapply (le_wp_ret _ _ _ _ _)
  iapply Hk
  isplitl [HO]; · iexact HO
  isplitl [Zb X0 X1 X2 X3 Y0 Y1 Y2 Y3 Y4]
  · isplitl [Zb]; · iexact Zb
    isplitl [X0 X1 X2 X3]
    · isplitl [X0]; · iexact X0
      isplitl [X1]; · iexact X1
      isplitl [X2]; · iexact X2
      iexact X3
    isplitl [Y0]; · iexact Y0
    isplitl [Y1]; · iexact Y1
    isplitl [Y2]; · iexact Y2
    isplitl [Y3]; · iexact Y3
    iexact Y4
  isplitl [Hx]; · iexact Hx
  iexact Hout

end Cert.Gather

end
-- ==== Proof.Deal.lean ====
/-
  Deal: what the launch hands out. The tokens are made once for the machine and handed to the devices that will pay with
  them; every device's cells are opened under one choice of names, which all devices then know; and what the devices owe a
  cell at the start adds up to the credits its owner waits with.
-/
module

public import proofs.«01_k».proof.Proof.Body

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true
set_option maxRecDepth 16384

variable {F : FTy → Type} [FloatOps F]

local notation "𝕄" => MT nD τ sig Unit (Elt F) ℕ UU ℕ

variable (m : (ℓ : Loc nD τ sig) → Buf (Elt F) ℓ) (ρ : Dev nD → PrngReg)

/-! ## Listing the small index types -/

omit [FloatOps F] in
theorem all4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem all5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem all1 (Φ : Unit → sProp 𝕄) : bigSep Finset.univ Φ = Φ () :=
  bigSep_univ_eq_bigSepL [()] (by decide) (by decide) Φ
omit [FloatOps F] in
theorem allSum {α β : Type} [Fintype α] [Fintype β] (Φ : α ⊕ β → sProp 𝕄) :
    bigSep Finset.univ Φ = iprop((bigSep Finset.univ fun a => Φ (.inl a)) ∗ bigSep Finset.univ fun b => Φ (.inr b)) := BI.bigSep_univ_sum Φ
omit [FloatOps F] in
theorem allKd (Φ : Kd → sProp 𝕄) : bigSep Finset.univ Φ
    = iprop(Φ kBar ∗ (Φ (kSnd 0) ∗ Φ (kSnd 1) ∗ Φ (kSnd 2) ∗ Φ (kSnd 3) ∗ Φ (kSnd 4)) ∗ (Φ (kRcv 0) ∗ Φ (kRcv 1) ∗ Φ (kRcv 2) ∗ Φ (kRcv 3))) := by
  rw [allSum, allSum, all1, all5, all4]

/-! ## The tokens, by payer -/

/-- What a device pays: a signal in one of four slots, the end of a transfer, the landing of a transfer. -/
abbrev Pay : Type := Fin 4 ⊕ Fin 5 ⊕ Fin 5

/-- Whether a device at place `y` makes the payment. -/
def pays (y : Fin 4) : Pay → Bool
  | .inl i => uses y i.castSucc
  | .inr (.inl i) => uses y i
  | .inr (.inr i) => uses y i
/-- The place, kind of cell and duty it goes to. -/
def payee (y : Fin 4) : Pay → Fin 4 × Kd × Fin 5
  | .inl i => (tgt y i.castSucc, kBar, rev i.castSucc)
  | .inr (.inl i) => (y, kSnd i, 0)
  | .inr (.inr i) => (tgt y i, kRcv (chk y i), 0)

/-- No two payments on a line go to one duty. -/
theorem payee_inj : ∀ (y y' : Fin 4) (j j' : Pay), pays y j = true → pays y' j' = true → payee y j = payee y' j' → y = y' ∧ j = j' := by
  decide +kernel

/-- The duty a device's payment goes to. -/
def tokOf (x : Dev nD × Pay) : GSem nD τ sig × ℕ × Fin 5 :=
  (kcell (onLine x.1 (payee (yOf x.1) x.2).1, (payee (yOf x.1) x.2).2.1), 0, (payee (yOf x.1) x.2).2.2)

theorem line_eq {c c' : Dev nD} {y y' : Fin 4} (h : onLine c y = onLine c' y') (hy : yOf c = yOf c') : c = c' := by
  have h1 := congrArg Fin.val h
  have h2 := congrArg Fin.val hy
  apply Fin.ext
  simp only [onLine, yOf] at h1 h2
  have := y.isLt; have := y'.isLt
  omega

def paid : Finset (Dev nD × Pay) := Finset.univ.filter fun x => pays (yOf x.1) x.2 = true

theorem tokOf_injOn : Set.InjOn tokOf (paid : Set (Dev nD × Pay)) := by
  rintro ⟨c, j⟩ hx ⟨c', j'⟩ hx' h
  have hp := (Finset.mem_filter.mp (Finset.mem_coe.mp hx)).2
  have hp' := (Finset.mem_filter.mp (Finset.mem_coe.mp hx')).2
  have hk := kcell_injective (congrArg (fun t => t.1) h)
  have hd : (payee (yOf c) j).2.2 = (payee (yOf c') j').2.2 := congrArg (fun t => t.2.2) h
  have h1 : onLine c (payee (yOf c) j).1 = onLine c' (payee (yOf c') j').1 := congrArg Prod.fst hk
  have h2 : (payee (yOf c) j).2.1 = (payee (yOf c') j').2.1 := congrArg Prod.snd hk
  have h3 : (payee (yOf c) j).1 = (payee (yOf c') j').1 := by
    have := congrArg yOf h1; rwa [yOf_onLine, yOf_onLine] at this
  obtain ⟨hy, hj⟩ := payee_inj _ _ _ _ hp hp' (Prod.ext h3 (Prod.ext h2 hd))
  exact Prod.ext (line_eq h1 hy) hj

def gCells : Finset (GSem nD τ sig) := Finset.univ.map ⟨kcell, kcell_injective⟩
def gToks : Finset (GSem nD τ sig × ℕ × Fin 5) := paid.image tokOf

omit [FloatOps F] in
theorem toks_deal : bigSep gToks (fun x => (dutyTok ER x.1 x.2.1 x.2.2 : sProp 𝕄)) = bigSep Finset.univ fun c : Dev nD => tokens c := by
  unfold gToks
  rw [bigSep_image_of_injOn tokOf_injOn]
  unfold paid
  rw [bigSep_filter, bigSep_univ_prod]
  refine bigSep_congr fun c _ => ?_
  rw [allSum, allSum, ← bigSep_sep', all4, all5]
  have h (i : Fin 5) : (iprop(guard (uses (yOf c) i) (dutyTok ER (kcell (onLine c (yOf c), kSnd i)) 0 0)
      ∗ guard (uses (yOf c) i) (dutyTok ER (kcell (dst c i, kRcv (chk (yOf c) i))) 0 0)) : sProp 𝕄) = sndTok c i := by
    unfold sndTok sndToks; rw [guard_sep, onLine_self]
  unfold tokens
  rw [← h 0, ← h 1, ← h 2, ← h 3, ← h 4]
  rfl

/-! ## The ghost state -/

/-- The positions at a device's cells. -/
def positions (c : Dev nD) : sProp 𝕄 := bigSep Finset.univ fun k : Kd => atPos ER (kcell (c, k)) 0 ∅ 0

/-- What a device gets of the ghost state, before its cells are opened; -/
def G (c : Dev nD) : sProp 𝕄 :=
  iprop((bigSep Finset.univ fun k : Kd => roundState ER (gRd m ρ) (kcell (c, k)) 0) ∗ positions c
    ∗ (bigSep Finset.univ fun k : Kd => reached ER (kcell (c, k)) 0) ∗ tokens c)
/-- and after. -/
def G' (c : Dev nD) : sProp 𝕄 := iprop((∃ K, recs m ρ K) ∗ positions c ∗ tokens c)

omit [FloatOps F] in
theorem cells_deal (Φ : GSem nD τ sig → sProp 𝕄) :
    bigSep gCells Φ = bigSep Finset.univ fun c : Dev nD => bigSep Finset.univ fun k : Kd => Φ (kcell (c, k)) := by
  unfold gCells; rw [bigSep_map, bigSep_univ_prod]; rfl

omit [FloatOps F] in
theorem fund_deal : BI.own (ER (initOf gCells gToks)) ⊢ (|==> bigSep Finset.univ (G m ρ) : sProp 𝕄) := by
  unfold G positions
  rw [bigSep_sep', bigSep_sep', bigSep_sep', ← toks_deal, ← cells_deal (fun g => roundState ER (gRd m ρ) g 0), ← cells_deal (fun g => atPos ER g 0 ∅ 0),
    ← cells_deal (fun g => reached ER g 0)]
  iintro HX
  imod (Rounds.fund ER (gRd m ρ) gCells gToks) $$ HX with ⟨Hst, Hr, Hat, Htok⟩
  imodintro
  isplitl [Hst]; · iexact Hst
  isplitl [Hat]; · iexact Hat
  isplitl [Hr]; · iexact Hr
  iexact Htok

/-! ## The counters -/

/-- The kernel's own semaphores: the send semaphores of the five slots, the receive semaphores of the four chunks. -/
def osem : Fin 9 → SemLoc sig := fun i => .dma ⟨2 + i.val, by have := i.isLt; show _ < 11; omega⟩

omit [FloatOps F] in
theorem unscopedSems_eq (c : Dev nD) : (unscopedSems0 c : sProp 𝕄) = semVal (kcell (c, kBar)) 0 := by
  unfold unscopedSems0; rw [bigSep_eq_bigSepL_of_eq [SemLoc.reg barS] (by decide) (by decide)]; rfl

omit [FloatOps F] in
theorem ownSems_eq (c : Dev nD) : (Pipeline.ownSems0 (Ix := Unit) (Name := ℕ) (U := UU) (Lvl := ℕ) (Val := Elt F) (τ := τ) osem c : sProp 𝕄)
    = iprop(semVal (kcell (c, kSnd 0)) 0 ∗ semVal (kcell (c, kSnd 1)) 0 ∗ semVal (kcell (c, kSnd 2)) 0 ∗ semVal (kcell (c, kSnd 3)) 0 ∗ semVal (kcell (c, kSnd 4)) 0
        ∗ semVal (kcell (c, kRcv 0)) 0 ∗ semVal (kcell (c, kRcv 1)) 0 ∗ semVal (kcell (c, kRcv 2)) 0 ∗ semVal (kcell (c, kRcv 3)) 0) := by
  rw [Pipeline.ownSems0_eq_of_list c osem [0, 1, 2, 3, 4, 5, 6, 7, 8] (by decide) (by decide)]; rfl

omit [FloatOps F] in
/-- The counters of a device's cells are all of its counters but the staging ones. -/
theorem counters (c : Dev nD) :
    iprop(Pipeline.ownSems0 (Ix := Unit) (Name := ℕ) (U := UU) (Lvl := ℕ) (Val := Elt F) (τ := τ) osem c ∗ unscopedSems0 c)
      ⊢ (bigSep Finset.univ fun k : Kd => semVal (kcell (c, k)) 0 : sProp 𝕄) := by
  rw [ownSems_eq, unscopedSems_eq, allKd]
  iintro ⟨⟨S0, S1, S2, S3, S4, HR⟩, HB⟩
  isplitl [HB]; · iexact HB
  isplitl [S0 S1 S2 S3 S4]
  · isplitl [S0]; · iexact S0
    isplitl [S1]; · iexact S1
    isplitl [S2]; · iexact S2
    isplitl [S3] <;> iassumption
  iexact HR

omit [FloatOps F] in
theorem zeros_out (c : Dev nD) : zeros c ⊢ (iprop(unscopedSems0 c
    ∗ Pipeline.ownSems0 (Ix := Unit) (Name := ℕ) (U := UU) (Lvl := ℕ) (Val := Elt F) (τ := τ) osem c) : sProp 𝕄) := by
  unfold zeros
  rw [ownSems_eq, unscopedSems_eq]
  iintro ⟨HB, HR, S0, S1, S2, S3, S4⟩
  isplitl [HB]; · iexact HB
  isplitl [S0]; · iexact S0
  isplitl [S1]; · iexact S1
  isplitl [S2]; · iexact S2
  isplitl [S3]; · iexact S3
  isplitl [S4] <;> iassumption

/-! ## Opening the cells -/

omit [FloatOps F] in
/-- A device's cells, opened. -/
theorem open_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Kd => iprop((∃ κ : ℕ, cellInv ER (gRd m ρ) κ (kcell (c, k))) ∗ reached ER (kcell (c, k)) 0))
          ∗ positions c ∗ tokens c) := by
  have h : iprop((bigSep Finset.univ fun k : Kd => semVal (kcell (c, k)) 0) ∗ bigSep Finset.univ fun k : Kd => roundState ER (gRd m ρ) (kcell (c, k)) 0)
      ⊢ (|={Set.univ}=> bigSep Finset.univ fun k : Kd => iprop(∃ κ : ℕ, cellInv ER (gRd m ρ) κ (kcell (c, k))) : sProp 𝕄) := by
    rw [← bigSep_sep']
    exact (bigSep_mono fun k _ => (Rounds.body_intro ER (gRd m ρ) (kcell (c, k))).trans inv_alloc).trans (bigSep_fupd _ _)
  unfold G
  rw [bigSep_sep']
  iintro ⟨Ho, Hu, Hst, Hat, Hr, Htok⟩
  ihave Hv := (counters (F := F) c) $$ [Ho Hu]
  · isplitl [Ho] <;> iassumption
  imod h $$ [Hv Hst] with Hinv
  · isplitl [Hv] <;> iassumption
  imodintro
  isplitl [Hinv Hr]
  · isplitl [Hinv] <;> iassumption
  isplitl [Hat] <;> iassumption

omit [FloatOps F] in
/-- The names chosen cell by cell are one choice of names, which all devices know. -/
theorem know_all : (bigSep Finset.univ fun c : Dev nD => iprop((bigSep Finset.univ fun k : Kd => iprop((∃ κ : ℕ, cellInv ER (gRd m ρ) κ (kcell (c, k))) ∗ reached ER (kcell (c, k)) 0))
          ∗ positions c ∗ tokens c) : sProp 𝕄) ⊢ bigSep Finset.univ (G' m ρ) := by
  rw [show bigSep Finset.univ (G' m ρ) = iprop((bigSep Finset.univ fun _ : Dev nD => iprop(∃ K, recs m ρ K)) ∗ bigSep Finset.univ fun c : Dev nD => iprop(positions c ∗ tokens c))
      from bigSep_sep' _ _ _, bigSep_sep',
    ← bigSep_univ_prod (fun ck : Dev nD × Kd => iprop((∃ κ : ℕ, cellInv ER (gRd (F := F) m ρ) κ (kcell ck)) ∗ reached ER (kcell ck) 0)), bigSep_sep']
  iintro ⟨⟨HI, HR⟩, Hrest⟩
  ihave HK := (BI.bigSep_exists_pi Finset.univ (fun (ck : Dev nD × Kd) (κ : ℕ) => (cellInv ER (gRd m ρ) κ (kcell ck) : sProp 𝕄))) $$ HI
  icases HK with ⟨%K, HI⟩
  ihave #H := (show iprop((bigSep Finset.univ fun ck : Dev nD × Kd => (cellInv ER (gRd m ρ) (K ck) (kcell ck) : sProp 𝕄))
      ∗ bigSep Finset.univ fun ck : Dev nD × Kd => reached ER (kcell ck) 0) ⊢ recs m ρ K from Entails.of_eq (by unfold recs; rw [bigSep_sep'])) $$ [HI HR]
  · isplitl [HI] <;> iassumption
  have h : recs m ρ K ⊢ (iprop(∃ K, recs m ρ K) : sProp 𝕄) := by iintro H; iexists K; iexact H
  isplitr [Hrest]; rotate_left; · iexact Hrest
  iapply (show (bigSep Finset.univ fun _ : Dev nD => recs m ρ K : sProp 𝕄) ⊢ bigSep Finset.univ fun _ : Dev nD => iprop(∃ K, recs m ρ K) from bigSep_mono fun _ _ => h)
  iapply (BI.bigSep_of_persistent Finset.univ (recs (F := F) m ρ K))
  iexact H

omit [FloatOps F] in
/-- All devices' cells at once, under one choice of names every device knows. -/
theorem open_all : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) := by
  refine ((bigSep_mono fun c _ => open_cells m ρ c).trans (bigSep_fupd _ _)).trans (BI.fupd_mono (know_all m ρ))

/-! ## The credits -/

/-- What a payment of `n` to kind `k'` of device `e` amounts to at kind `k` of device `c`. -/
theorem owed_at (u : Bool) (e c : Dev nD) (k' k : Kd) (n : ℕ) :
    (if u = true then tallyAt (kcell (e, k')) () n else 0 : CellTallies nD τ sig Unit) (kcell (c, k)) ()
      = if (u && (decide (e = c) && decide (k' = k))) = true then n else 0 := by
  cases u
  · rfl
  · rw [if_pos rfl, tallyAt_apply]
    refine if_congr ⟨fun h => ?_, fun h => ?_⟩ rfl rfl
    · have h' := kcell_injective h.1
      rw [Prod.mk.injEq] at h'
      rw [Bool.true_and, Bool.and_eq_true, decide_eq_true_eq, decide_eq_true_eq]
      exact ⟨h'.1.symm, h'.2.symm⟩
    · rw [Bool.true_and, Bool.and_eq_true, decide_eq_true_eq, decide_eq_true_eq] at h
      exact ⟨by rw [h.1, h.2], rfl⟩

/-- Device `d`'s signal in slot `i` goes to `c`; its transfer in slot `i` brings chunk `k` to `c`. -/
def hitsBar (c d : Dev nD) (i : Fin 5) : ℕ := if (uses (yOf d) i && decide (dst d i = c)) = true then 1 else 0
def hitsRcv (c : Dev nD) (k : Fin 4) (d : Dev nD) (i : Fin 5) : ℕ :=
  if (uses (yOf d) i && (decide (dst d i = c) && decide (chk (yOf d) i = k))) = true then 1 else 0

theorem owed_bar (c d : Dev nD) : O₀ d (kcell (c, kBar)) () = hitsBar c d 3 + hitsBar c d 2 + hitsBar c d 1 + hitsBar c d 0 := by
  have hg (i : Fin 5) : oSig d i (kcell (c, kBar)) () = hitsBar c d i := by
    unfold oSig hitsBar; rw [owed_at, decide_eq_true (rfl : kBar = kBar), Bool.and_true]
  have hn (i : Fin 5) : oSnd d i (kcell (c, kBar)) () = 0 := by
    unfold oSnd; rw [owed_at, decide_eq_false (p := kRcv (chk (yOf d) i) = kBar) (fun h => by cases h), Bool.and_false, Bool.and_false]; rfl
  unfold O₀ oSends
  simp only [Pi.add_apply, Finsupp.add_apply, hg, hn, Pi.zero_apply, Finsupp.zero_apply, Nat.zero_add]

theorem owed_rcv (c d : Dev nD) (k : Fin 4) : O₀ d (kcell (c, kRcv k)) ()
    = N * (hitsRcv c k d 4 + hitsRcv c k d 3 + hitsRcv c k d 2 + hitsRcv c k d 1 + hitsRcv c k d 0) := by
  have hg (i : Fin 5) : oSnd d i (kcell (c, kRcv k)) () = N * hitsRcv c k d i := by
    unfold oSnd hitsRcv
    rw [owed_at, mul_ite, Nat.mul_one, Nat.mul_zero]
    refine if_congr (Eq.to_iff (congrArg (· = true) (congrArg (uses (yOf d) i && ·) (congrArg (decide (dst d i = c) && ·) ?_)))) rfl rfl
    exact decide_eq_decide.mpr ⟨fun h => Sum.inr.inj (Sum.inr.inj h), fun h => by rw [h]⟩
  have hn (i : Fin 5) : oSig d i (kcell (c, kRcv k)) () = 0 := by
    unfold oSig; rw [owed_at, decide_eq_false (p := kBar = kRcv k) (fun h => by cases h), Bool.and_false, Bool.and_false]; rfl
  unfold O₀ oSends
  simp only [Pi.add_apply, Finsupp.add_apply, hg, hn, Pi.zero_apply, Finsupp.zero_apply, Nat.zero_add, Nat.add_zero, Nat.mul_add]

/-- Every device has one signal from each neighbour; -/
theorem count_bar : ∀ c : Dev nD, (∑ d : Dev nD, (hitsBar c d 3 + hitsBar c d 2 + hitsBar c d 1 + hitsBar c d 0)) = partners (yOf c) := by decide +kernel
/-- every chunk but its own is brought to it once. -/
theorem count_rcv : ∀ (c : Dev nD) (k : Fin 4), (∑ d : Dev nD, (hitsRcv c k d 4 + hitsRcv c k d 3 + hitsRcv c k d 2 + hitsRcv c k d 1 + hitsRcv c k d 0))
    = if decide (k ≠ yOf c) = true then 1 else 0 := by decide +kernel

theorem credit_bar (c : Dev nD) :
    tallyOn (kcell (c, kBar)) (launchCredit (Pipeline.owing O₀) 0 (kcell (c, kBar))) = (tallyAt (kcell (c, kBar)) () (partners (yOf c)) : CellTallies nD τ sig Unit) := by
  unfold tallyAt; refine congrArg _ (Finsupp.ext fun u => ?_); cases u
  rw [Pipeline.launchCredit_owing, Finsupp.single_eq_same, Finset.sum_congr rfl fun d _ => owed_bar c d, count_bar]
theorem credit_rcv (c : Dev nD) (k : Fin 4) (h : decide (k ≠ yOf c) = true) :
    tallyOn (kcell (c, kRcv k)) (launchCredit (Pipeline.owing O₀) 0 (kcell (c, kRcv k))) = (tallyAt (kcell (c, kRcv k)) () N : CellTallies nD τ sig Unit) := by
  unfold tallyAt; refine congrArg _ (Finsupp.ext fun u => ?_); cases u
  rw [Pipeline.launchCredit_owing, Finsupp.single_eq_same, Finset.sum_congr rfl fun d _ => owed_rcv c d k, ← Finset.mul_sum, count_rcv, if_pos h, Nat.mul_one]

/-- The credit a device waits for chunk `k` with. -/
def rcvCred (c : Dev nD) (k : Fin 4) : sProp 𝕄 := guard (decide (k ≠ yOf c)) (cred (tallyAt (kcell (c, kRcv k)) () N))

omit [FloatOps F] in
theorem credits (c : Dev nD) : (Pipeline.launchCred O₀ c : sProp 𝕄)
    ⊢ iprop(cred (tallyAt (kcell (c, kBar)) () (partners (yOf c))) ∗ rcvCred c 0 ∗ rcvCred c 1 ∗ rcvCred c 2 ∗ rcvCred c 3) := by
  have hr (k : Fin 4) : cred (tallyOn (kcell (c, kRcv k)) (launchCredit (Pipeline.owing O₀) 0 (kcell (c, kRcv k)))) ⊢ (rcvCred c k : sProp 𝕄) := by
    unfold rcvCred
    by_cases h : decide (k ≠ yOf c) = true
    · rw [guard_pos h, credit_rcv c k h]
    · rw [guard_neg h]; iintro -; iempintro
  unfold Pipeline.launchCred
  refine (bigSep_subset (Finset.subset_univ (Finset.univ.map ⟨csem, csem_injective⟩))).trans ?_
  rw [bigSep_map]
  change bigSep Finset.univ (fun k : Kd => cred (tallyOn (kcell (c, k)) (launchCredit (Pipeline.owing O₀) 0 (kcell (c, k))))) ⊢ _
  rw [allKd, ← credit_bar]
  iintro ⟨HB, -, H0, H1, H2, H3⟩
  isplitl [HB]; · iexact HB
  isplitl [H0]; · iapply (hr 0); iexact H0
  isplitl [H1]; · iapply (hr 1); iexact H1
  isplitl [H2]; · iapply (hr 2); iexact H2
  iapply (hr 3); iexact H3

omit [FloatOps F] in
/-- Positions and credits make what a device's body starts from. -/
theorem places_intro (c : Dev nD) : iprop(positions c ∗ Pipeline.launchCred O₀ c) ⊢ (places0 c : sProp 𝕄) := by
  unfold positions places0
  rw [allKd]
  iintro ⟨⟨HB, HS, R0, R1, R2, R3⟩, HC⟩
  ihave HC := (credits (F := F) c) $$ HC
  icases HC with ⟨CB, C0, C1, C2, C3⟩
  unfold barSt rcvStart rcvCred
  rw [if_neg (by decide)]
  isplitl [HB CB]; · isplitl [CB] <;> iassumption
  isplitl [R0 R1 R2 R3 C0 C1 C2 C3]
  · isplitl [R0 C0]; · isplitl [C0] <;> iassumption
    isplitl [R1 C1]; · isplitl [C1] <;> iassumption
    isplitl [R2 C2]; · isplitl [C2] <;> iassumption
    isplitl [C3] <;> iassumption
  iexact HS

end Cert.Gather

end
-- ==== Proof.Launch.lean ====
/-
  Launch: the program around the body. Its one call stages the input block in, runs the body, and writes the result buffer
  out; from any memory with every counter at zero, every device ends with its input unchanged, its result array at the
  computed contents, and every counter at zero.
-/
module

public import proofs.«01_k».proof.Proof.Deal
public import Idealize.ShloMosaic.Lib.Pipeline.CollectiveSegs

@[expose] public section

noncomputable section

namespace Cert.Gather

open Cert.KernelIdeal Cert.KernelIdeal.Gen
open Idealize.ShloMosaic
open Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true
set_option maxRecDepth 16384

variable {F : FTy → Type} [FloatOps F]

local notation "𝕄" => MT nD τ sig Unit (Elt F) ℕ UU ℕ

variable (m : (ℓ : Loc nD τ sig) → Buf (Elt F) ℓ) (ρ : Dev nD → PrngReg)

/-! ## What the call starts from and leaves -/

/-- What device `c`'s body starts from, beside its buffers. -/
def start (c : Dev nD) : sProp 𝕄 := iprop((∃ K, recs m ρ K) ∗ tokens c ∗ places0 c ∗ levAts L lv)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gath m ρ c
  Φ t := match t with
    | ⟨0, _⟩ => start m ρ c
    | ⟨_ + 1, _⟩ => zeros c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

omit [FloatOps F] in
/-- A whole buffer held at contents `X`. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} X) := by
  have h : (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
    unfold owns; simp only [Memref.view_whole, View.read_whole, View.set_whole]
  have h1 : iprop(∃ f : Buf (Elt F) ((c : Thread nD τ).loc b), ⌜f = X⌝ ∗ (((c : Thread nD τ).loc b) ↦{fullShare} f))
      ⊢ ((((c : Thread nD τ).loc b) ↦{fullShare} X) : sProp 𝕄) := by
    iintro ⟨%f, %e, H⟩; rw [← e]; iexact H
  have h2 : ((((c : Thread nD τ).loc b) ↦{fullShare} X) : sProp 𝕄)
      ⊢ iprop(∃ f : Buf (Elt F) ((c : Thread nD τ).loc b), ⌜f = X⌝ ∗ (((c : Thread nD τ).loc b) ↦{fullShare} f)) := by
    iintro H; iexists X; isplitr; · (ipureintro; rfl)
    iexact H
  exact h.trans (equiv_iff.mp ⟨h1, h2⟩)

/-- A staging buffer of device `c`, as the call's point gives and takes it. -/
abbrev staged (c : Dev nD) (b : Ref sig .tc) (X : b.ty.Contents (Elt F)) : sProp 𝕄 := owns (c : Thread nD τ) (Memref.whole b) fullShare X

/-- What the call's point asks of the body, and what it takes back. -/
def pointPre (c : Dev nD) : sProp 𝕄 :=
  iprop(start m ρ c ∗ (dats m ρ 0 c).owesAt () t0_0.castSucc
    ∗ (∃ d, staged c cc0_stg0_0 ((dats m ρ 0 c).before (0 : Fin 2) t0_0 d)) ∗ (∃ d, staged c cc0_stg1_0 ((dats m ρ 0 c).before (1 : Fin 2) t0_0 d)))
def pointPost (c : Dev nD) : sProp 𝕄 :=
  iprop(zeros c ∗ (dats m ρ 0 c).owesAt () t0_0.succ ∗ staged c cc0_stg0_0 (xstg m ρ c) ∗ staged c cc0_stg1_0 (gath m ρ c))

theorem staged_x (c : Dev nD) (d) : (dats m ρ 0 c).before (0 : Fin 2) t0_0 d = xstg m ρ c := by
  unfold Dat.before; rw [if_pos (fetch0_0 t0_0)]; rfl

theorem owes_in (c : Dev nD) : (dats m ρ 0 c).owesAt () t0_0.castSucc ⊢ owing c (O₀ c) := by
  unfold Dat.owesAt Pipeline.owesWithin owing
  iintro ⟨%W, -, HO⟩
  iexists W; iexact HO
theorem owes_out (c : Dev nD) : owing c 0 ⊢ (dats m ρ 0 c).owesAt () t0_0.succ := by
  unfold Dat.owesAt Pipeline.owesWithin owing
  iintro ⟨%W, HO⟩
  iexists W
  isplitr; · (ipureintro; exact fun _ _ => Or.inl trivial)
  iexact HO

theorem point_in (c : Dev nD) : pointPre m ρ c ⊢ iprop(∃ K, ∃ f, recs m ρ K ∗ levAts L lv ∗ owing c (O₀ c) ∗ tokens c ∗ places0 c ∗ xPts m ρ c ∗ outPts c f) := by
  unfold pointPre start
  simp only [staged_x]
  iintro ⟨⟨⟨%K, HK⟩, HT, HP, HL⟩, HO, ⟨%d, Hx⟩, ⟨%d', Hf⟩⟩
  ihave HO := (owes_in m ρ c) $$ HO
  iexists K
  iexists ((dats m ρ 0 c).before (1 : Fin 2) t0_0 d')
  isplitl [HK]; · iexact HK
  isplitl [HL]; · iexact HL
  isplitl [HO]; · iexact HO
  isplitl [HT]; · iexact HT
  isplitl [HP]; · iexact HP
  ihave Hx := (Entails.of_eq (owns_buffer c cc0_stg0_0 (xstg m ρ c))) $$ Hx
  ihave Hf := (Entails.of_eq (owns_buffer c cc0_stg1_0 ((dats m ρ 0 c).before (1 : Fin 2) t0_0 d'))) $$ Hf
  unfold xPts outPts
  isplitl [Hx] <;> iassumption

theorem point_out (c : Dev nD) : iprop(owing c 0 ∗ zeros c ∗ xPts m ρ c ∗ outPts c (gath m ρ c)) ⊢ pointPost m ρ c := by
  unfold pointPost
  iintro ⟨HO, HZ, Hx, Hf⟩
  ihave HO := (owes_out m ρ c) $$ HO
  isplitl [HZ]; · iexact HZ
  isplitl [HO]; · iexact HO
  unfold xPts outPts
  isplitl [Hx]
  · iapply (Entails.of_eq (owns_buffer c cc0_stg0_0 (xstg m ρ c)).symm); iexact Hx
  · iapply (Entails.of_eq (owns_buffer c cc0_stg1_0 (gath m ρ c)).symm); iexact Hf

theorem point (c : Dev nD) : pointPre m ρ c ⊢ wpD c (cc0_body (F := F) xM (Memref.isWhole_whole _) oM (Memref.isWhole_whole _) cc0_scratch0 cc0_scratch1)
    (fun _ => pointPost m ρ c) := by
  iintro H
  ihave H := (point_in m ρ c) $$ H
  icases H with ⟨%K, %f, H⟩
  iapply (body_spec m ρ K c f (Q := fun _ => pointPost m ρ c)) $$ H
  iintro H
  iapply (point_out m ρ c)
  iexact H

/-- The program the call runs at its point is the body on the staging buffers. -/
theorem body_args {X : Memref sig .tc .vmem S256x256 .bf16} {Y : Memref sig .tc .vmem S1024x256 .bf16} (hX : X.IsWhole) (hY : Y.IsWhole) (eX : X = xM) (eY : Y = oM) :
    cc0_body (F := F) X hX Y hY cc0_scratch0 cc0_scratch1 = cc0_body xM (Memref.isWhole_whole _) oM (Memref.isWhole_whole _) cc0_scratch0 cc0_scratch1 := by
  subst eX eY; rfl
theorem body_entry : defs₀ (F := F) .tc cfg0.body (cfg0.bodyArgs t0_0 (cfg0.slots t0_0)) = bodyAt0 t0_0 := by
  unfold defs₀; rw [Defs.onTc_tc]
theorem body_at : (bodyAt0 t0_0 : Prog (TpuEff nD τ sig (Elt F) Λ₀ .tc) PUnit)
    = cc0_body xM (Memref.isWhole_whole _) oM (Memref.isWhole_whole _) cc0_scratch0 cc0_scratch1 := body_args _ _ rfl rfl

theorem point_wp (c : Dev nD) : pointPre m ρ c ⊢ wp frame (wpE (defs₀ (F := F)) 𝒱₀ (c : Thread nD τ) none) Set.univ (bodyAt0 t0_0) (fun _ => pointPost m ρ c) := by
  have h := point m ρ c
  unfold wpD at h
  rw [body_at]
  exact h

/-- The body, as the call's point asks for it. -/
theorem body_point (c : Dev nD) : BodyObligation (dats (F := F) m ρ 0 c) (defs₀ (F := F)) 𝒱₀ () Set.univ := fun t => by
  rw [fin_N0 t, body_entry]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  refine triple_restated (point_wp m ρ c) rfl ?_ ?_
  · exact .rfl
  · intro a
    exact .rfl

/-! ## Into the call and out of it -/

theorem ownSemFacts : Pipeline.OwnSemFacts cfg0.spec osem := by decide

omit [FloatOps F] in
theorem into_start (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' start
  iintro ⟨-, HL, HC, -, HK, HP, HT⟩
  ihave HP := (places_intro (F := F) c) $$ [HP HC]
  · isplitl [HP] <;> iassumption
  imodintro
  isplitl
  · isplitl [HK]; · iexact HK
    isplitl [HT]; · iexact HT
    isplitl [HP] <;> iassumption
  · iempintro

theorem into_call (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨H, -, -⟩
  iexact H

theorem out_of_call (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = zeros c from rfl, scopedRest0_eq]
  iintro H
  ihave H := (zeros_out (F := F) c) $$ H
  icases H with ⟨HU, HO⟩
  isplitl [HU]; · iexact HU
  isplitl [HO]; · iexact HO
  iempintro

theorem staging_kind : ∀ (w : Fin (cfgs 0).W) (s : Fin ((cfgs 0).win w).nbuf), kindOf (.dma (((cfgs 0).win w).sem s)) = none := by decide

/-- The staging cells are below everything owed. -/
theorem waits (c : Dev nD) : (levAts L lv : sProp 𝕄) ⊢ Pipeline.cellsWaits cfgs (dats m ρ) () 0 c :=
  Pipeline.cellsWaits_intro cfgs (dats m ρ) () 0 c fun w s t => by
    refine mayWait_above c _ (n := 0) ?_ (by unfold lv; rw [staging_kind w s]; exact Nat.le_refl 0)
    rcases t with ⟨_ | _, ht⟩
    · exact above_O₀ c
    · exact above_zero 0

/-! ## The run -/

def u₀ : UU := (initOf (Pipeline.cells cfgs cellOf_inj) (Pipeline.launchToks cfgs cellOf_inj), initOf gCells gToks)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- For any float values, from any memory with every counter at zero: every run ends, with each device's arrays at the
    computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_point m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_deal m ρ) $$ HX with HG
      imodintro
      isplitl [HP] <;> iassumption)
    (hglob := open_all m ρ)
    (hA := fun _ _ => rfl) (hpf := fun _ k => k.elim0)
    (X := start m ρ) (Y := fun c => unscopedSems0 c) (Z := fun _ => iprop(emp))
    (hX := into_start m ρ) (hin := into_call m ρ) (hout := out_of_call m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

/-- The input array is unchanged. -/
theorem finalA_x (c : Dev nD) : finalA m ρ c (0 : Fin 2) = m ((c : Thread nD τ).loc main_arg0) :=
  (dats (F := F) m ρ 0 c).arrAt_in (0 : Fin 2) rfl _

/-- The result array, read whole, is the gathered result. -/
theorem finalA_read (c : Dev nD) : (win0_1.blk (0 : Fin 1)).view.read (Elt F) (finalA m ρ c (1 : Fin 2)) = gath m ρ c := by
  have e : finalA m ρ c (1 : Fin 2) = (win0_1.blk t0_0).view.write (Elt F) ((dats m ρ 0 c).arrAt (1 : Fin 2) 0) ((dats m ρ 0 c).flushed (1 : Fin 2) t0_0) Finset.univ :=
    ((dats m ρ 0 c).arrAt_succ (1 : Fin 2) t0_0).trans (if_pos (flush0_1 t0_0))
  rw [e]
  exact View.read_write_univ _ _

end Cert.Gather

end
-- ==== Proof.Value.lean ====
/-
  Value: what a run leaves, in terms of the memory it started from. A device's result holds, chunk after chunk, the input
  blocks of the devices on its line; if those inputs are the blocks of one array, cut by rows along the mesh's second axis,
  the result is that array.
-/
module

public import proofs.«01_k».proof.Proof.Launch

@[expose] public section

noncomputable section

namespace Cert.Gather

open Cert.KernelIdeal Cert.KernelIdeal.Gen
open Idealize.ShloMosaic
open Idealize.ShloMosaic.TcCoe

set_option backward.proofsInPublic true
set_option maxRecDepth 16384

variable {F : FTy → Type} [FloatOps F]
variable (m : (ℓ : Loc nD τ sig) → Buf (Elt F) ℓ) (ρ : Dev nD → PrngReg)

omit [FloatOps F] in
/-- The staged block is the whole input array. -/
theorem xstg_eq (c : Dev nD) : xstg m ρ c = m ((c : Thread nD τ).loc main_arg0) :=
  Memref.read_access_unit_zero (Elt F) main_arg0 (by decide) _ _

/-- The result array ends at the gathered result. -/
theorem finalA_result (c : Dev nD) : finalA m ρ c (1 : Fin 2) = gath m ρ c :=
  (Memref.read_access_unit_zero (Elt F) main_v1 (by decide) _ _).symm.trans (finalA_read m ρ c)

/-- The block a device holds is named by its place along the line. -/
theorem block_row : ∀ c : Dev nD, ∀ y : Fin 4,
    ((Layout.meshBlock [2, 4, 4] ![[1], []] (onLine c y) : (b : Fin 2) → _) 0).val = y.val := by decide
theorem block_col : ∀ c : Dev nD, ((Layout.meshBlock [2, 4, 4] ![[1], []] c : (b : Fin 2) → _) 1).val = 0 := by decide

omit [FloatOps F] in
/-- If every input is its block of one array `X`, the gathered result is `X`. -/
theorem gath_whole (X : (cc0_stg1_0 : Ref sig .tc).ty.Contents (Elt F))
    (h : ∀ c : Dev nD, m ((c : Thread nD τ).loc main_arg0)
      = Layout.blockN ⟨2, ![256, 256]⟩ ⟨2, ![1024, 256]⟩ (Layout.meshBlock [2, 4, 4] ![[1], []] c) X)
    (c : Dev nD) : gath m ρ c = X := by
  funext i
  unfold gath
  rw [xstg_eq, h]
  rw [Layout.blockN_apply]
  congr 1
  have hi : (i 0).val < 1024 := (i 0).isLt
  funext a
  match a with
  | ⟨0, _⟩ =>
    apply Fin.ext
    rw [Layout.TilesN.idx_val]
    have hb := block_row c (rowPlace i)
    have h0 : (rowPlace i).val = (i 0).val / 256 := rfl
    have h1 : ((rowIn i) 0).val = (i 0).val % 256 := rfl
    show ((Layout.meshBlock [2, 4, 4] ![[1], []] (onLine c (rowPlace i)) : (b : Fin 2) → _) 0).val * 256 + ((rowIn i) 0).val = (i 0).val
    omega
  | ⟨1, _⟩ =>
    apply Fin.ext
    rw [Layout.TilesN.idx_val]
    have hb := block_col (onLine c (rowPlace i))
    have h1 : ((rowIn i) 1).val = (i 1).val := rfl
    show ((Layout.meshBlock [2, 4, 4] ![[1], []] (onLine c (rowPlace i)) : (b : Fin 2) → _) 1).val * 256 + ((rowIn i) 1).val = (i 1).val
    omega

end Cert.Gather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init
public import Idealize.ShloMosaic.Lib.Quiescent
public import Idealize.ShloMosaic.Lib.StableHlo.Run

@[expose] public section

noncomputable section

namespace Cert.Proof

open Idealize.ShloMosaic Idealize.SL.Sem
open Cert.Gather

set_option maxRecDepth 16384

/-- The two programs have one text, and so one table of bodies. -/
theorem tables_eq : (Kernel.defs₀ (F := Bits)) = (KernelIdeal.defs₀ (F := Bits)) := by
  funext p l a
  cases p with
  | tc =>
    match l, a with
    | ⟨0, _⟩, a => rfl
  | _ => rfl

/-- The kernel as printed, read at bits: its program is the idealized one's, whose run holds for any float values. -/
theorem frame_kernel : Cert.quiescent_Kernel := fun m ρ _ => by
  have h : θ_run (Cert.KernelIdeal.defs (F := Bits)) (onTc (τ := KernelIdeal.τ) (Cert.KernelIdeal.main (F := Bits))) ⟨m, fun _ => 0, ρ⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0))
      ∧ r.2.sem = fun _ => 0) := (θ_run Cert.KernelIdeal.defs _ _).mono (fun _ h => ⟨fun c => (h.1 c (0 : Fin 2)).trans (finalA_x m ρ c), h.2⟩) (run_main (F := Bits) m ρ)
  show θ_run (Pipeline.defs Kernel.pcfgs (Kernel.defs₀ (F := Bits))) _ _ _
  rw [tables_eq]
  exact h

theorem frame_ideal : Cert.quiescent_KernelIdeal := fun m ρ _ =>
  (θ_run Cert.KernelIdeal.defs _ _).mono (fun _ h => ⟨fun c => (h.1 c (0 : Fin 2)).trans (finalA_x m ρ c), h.2⟩) (run_main (F := Ideal) m ρ)

/-- The reference returns at once, its memory as it was. -/
theorem reference_run (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩
      (fun r => r.2.mem ((((0 : Dev ReferenceIdeal.nD).tc : Thread ReferenceIdeal.nD ReferenceIdeal.τ)).loc ReferenceIdeal.main_arg0)
          = m ((((0 : Dev ReferenceIdeal.nD).tc : Thread ReferenceIdeal.nD ReferenceIdeal.τ)).loc ReferenceIdeal.main_arg0)
        ∧ r.2.sem = fun _ => 0) :=
  (θ_run ReferenceIdeal.defs _ _).mono (fun r h => ⟨h (0 : Dev ReferenceIdeal.nD) ReferenceIdeal.main_arg0, sem_eq_zero_of_no_sems (by decide) r.2⟩)
    (StableHlo.run_seq (by decide) (by decide) ReferenceIdeal.defs ReferenceIdeal.main (fun _ => []) (fun _ => rfl) (fun _ => trivial) m ρ)

theorem frame_reference : Cert.quiescent_ReferenceIdeal := fun m ρ _ =>
  (θ_run ReferenceIdeal.defs _ _).mono (fun _ h => ⟨fun c => by rw [Subsingleton.elim c (0 : Dev ReferenceIdeal.nD)]; exact h.1, h.2⟩) (reference_run m ρ)

/-- The kernel's result on every device is the reference's array. -/
theorem value : Cert.algebraic_KernelIdeal_ReferenceIdeal := fun m ρ m' ρ' _ hb =>
  ⟨m' (((0 : Dev ReferenceIdeal.nD).tc : Thread ReferenceIdeal.nD ReferenceIdeal.τ).loc ReferenceIdeal.main_arg0),
    (θ_run Cert.KernelIdeal.defs _ _).mono (fun _ h c => ⟨((h.1 c (1 : Fin 2)).trans (finalA_result m ρ c)).trans (gath_whole m ρ _ hb c),
      (h.1 c (0 : Fin 2)).trans (finalA_x m ρ c)⟩) (run_main (F := Ideal) m ρ),
    (θ_run ReferenceIdeal.defs _ _).mono (fun _ h => ⟨h.1, h.1⟩) (reference_run m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
